-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps" .f32 0x3651BA72#32 ((1 / 319980 : ℝ) : EReal)
  ∧ IdealRules.named_const.Statement Cert.KernelIdeal.κ "entropy" .f32 0xBFAE63F8#32 (((1 / 10) * (Real.log (129140163 / 106660000000000)) : ℝ) : EReal)
  ∧ IdealRules.named_const.Statement Cert.KernelIdeal.κ "conf_minus_eps" .f32 0x3F666632#32 ((287981 / 319980 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_in_range : Cert.Pre_in_range.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x32000 : S_.BroadcastsInDim S4096x32000 (![] : Fin 0 → Fin S4096x32000.rank)
  reducesTo_S4096x32000_S_d0_1 : S4096x32000.ReducesTo [0, 1] S_

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S4096x32000 .f32 := Host.absf main_arg0
  let main_cst : FVec F S_ .f32 := constant S_ .f32 0x7F800000#32
  let main_v7 : FVec F S4096x32000 .f32 := broadcastInDim S4096x32000 ![] bcast_S_S4096x32000 main_cst
  let main_v8 : IVec S4096x32000 1 := cmpf .olt main_v6 main_v7
  let main_c_2 : IVec S_ 1 := constantI S_ 1 1#1
  let main_v9 : IVec S_ 1 := (fun x v => Host.reduce IntOp.andi x v reducesTo_S4096x32000_S_d0_1 h_S_) main_v8 main_c_2
  let main_v10 : IVec S_ 1 := andi main_v5 main_v9
  main_v10
-- ==== Pre_in_vocab.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x32000 : Shape := ⟨2, ![4096, 32000]⟩
abbrev S4096 : Shape := ⟨1, ![4096]⟩
abbrev S256x6400 : Shape := ⟨2, ![256, 6400]⟩
abbrev S256 : Shape := ⟨1, ![256]⟩
abbrev S256x1 : Shape := ⟨2, ![256, 1]⟩
abbrev S131072000 : Shape := ⟨1, ![131072000]⟩
abbrev S32x16 : Shape := ⟨2, ![32, 16]⟩
abbrev S128 : Shape := ⟨1, ![128]⟩
abbrev S16 : Shape := ⟨1, ![16]⟩
abbrev S_ : Shape := ⟨0, ![]⟩
abbrev S1x16 : Shape := ⟨2, ![1, 16]⟩

abbrev nBuf : Table → Nat
  | .hbm => 7
  | .local .tc .vmem => 4
  | .local .scVector .vmem => 5
  | _ => 0

abbrev bufTy : (tb : Table) → Fin (nBuf tb) → BufTy
  | .hbm, ⟨0, _⟩ => ⟨S4096x32000, .f32⟩
  | .hbm, ⟨1, _⟩ => ⟨S4096, .i32⟩
  | .hbm, ⟨2, _⟩ => ⟨S4096, .f32⟩
  | .hbm, ⟨3, _⟩ => ⟨S131072000, .f32⟩
  | .hbm, ⟨4, _⟩ => ⟨S32x16, .f32⟩
  | .hbm, ⟨5, _⟩ => ⟨S_, .f32⟩
  | .hbm, ⟨6, _⟩ => ⟨S_, .f32⟩
  | .local .tc .vmem, ⟨0, _⟩ => ⟨S256x6400, .f32⟩
  | .local .tc .vmem, ⟨1, _⟩ => ⟨S256x6400, .f32⟩
  | .local .tc .vmem, ⟨2, _⟩ => ⟨S256, .f32⟩
  | .local .tc .vmem, ⟨3, _⟩ => ⟨S256, .f32⟩
  | .local .scVector .vmem, ⟨0, _⟩ => ⟨S128, .i32⟩
  | .local .scVector .vmem, ⟨1, _⟩ => ⟨S128, .i32⟩
  | .local .scVector .vmem, ⟨2, _⟩ => ⟨S128, .f32⟩
  | .local .scVector .vmem, ⟨3, _⟩ => ⟨S128, .f32⟩
  | .local .scVector .vmem, ⟨4, _⟩ => ⟨S16, .f32⟩
  | _, _ => ⟨S4096x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v1_scv : Ref sig .scVector := ⟨.hbm, 3, rfl⟩
abbrev main_arg1_scv : Ref sig .scVector := ⟨.hbm, 1, rfl⟩
abbrev main_v0_scv : Ref sig .scVector := ⟨.hbm, 2, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .sgt arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_82_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_minus_eps" => some ((287981 / 319980 : ℝ) : EReal)
  | "entropy" => some (((1 / 10) * (Real.log (129140163 / 106660000000000)) : ℝ) : EReal)
  | "eps" => some ((1 / 319980 : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 64
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x32000, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x32000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x32000, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x32000, .i1⟩
  | .hbm, ⟨42, _⟩ => ⟨S4096x32000, .f32⟩
  | .hbm, ⟨43, _⟩ => ⟨S4096x32000, .f32⟩
  | .hbm, ⟨44, _⟩ => ⟨S_, .f32⟩
  | .hbm, ⟨45, _⟩ => ⟨S4096x32000, .f32⟩
  | .hbm, ⟨46, _⟩ => ⟨S4096x32000, .i1⟩
  | .hbm, ⟨47, _⟩ => ⟨S_, .f32⟩
  | .hbm, ⟨48, _⟩ => ⟨S_, .f32⟩
  | .hbm, ⟨49, _⟩ => ⟨S4096x32000, .f32⟩
  | .hbm, ⟨50, _⟩ => ⟨S4096x32000, .f32⟩
  | .hbm, ⟨51, _⟩ => ⟨S_, .f32⟩
  | .hbm, ⟨52, _⟩ => ⟨S4096x32000, .f32⟩
  | .hbm, ⟨53, _⟩ => ⟨S4096x32000, .i1⟩
  | .hbm, ⟨54, _⟩ => ⟨S4096x32000, .f32⟩
  | .hbm, ⟨55, _⟩ => ⟨S4096x32000, .f32⟩
  | .hbm, ⟨56, _⟩ => ⟨S_, .f32⟩
  | .hbm, ⟨57, _⟩ => ⟨S_, .f32⟩
  | .hbm, ⟨58, _⟩ => ⟨S4096x32000, .f32⟩
  | .hbm, ⟨59, _⟩ => ⟨S4096x32000, .f32⟩
  | .hbm, ⟨60, _⟩ => ⟨S4096x32000, .f32⟩
  | .hbm, ⟨61, _⟩ => ⟨S4096x32000, .f32⟩
  | .hbm, ⟨62, _⟩ => ⟨S_, .f32⟩
  | .hbm, ⟨63, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_call2_v0 : Ref sig .tc := ⟨.hbm, 57, rfl⟩
abbrev main_call2_v1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_14 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Proof.KI.Base.lean ====
/-
  The kernel as the launch theorem sees it: the program's calls, the resource algebra (the handshakes' rounds, the
  pipeline's rounds and the transfers' counters), the buffers, and the values the vector subcores compute.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.ShareLeaves
public import Idealize.ShloMosaic.Lib.Writes
public import Idealize.ShloMosaic.Lib.WritesUnit
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The resource algebra: the handshakes' rounds, the pipeline's rounds, the transfers' counters -/

abbrev UH : Type := URounds (GSem nD τ sig) ℕ
/-- The pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb (UP) (MT nD τ sig (HIx 1) (Elt F) ℕ UU ℕ) :=
  (Emb.inl : Emb (UP) (UP × Counters)).trans embR

/-! ## The buffers -/

abbrev xLoc (d : Dev nD) : Loc nD τ sig := (SparseCore.T d).loc main_arg0
abbrev tLoc (d : Dev nD) : Loc nD τ sig := (SparseCore.T d).loc main_arg1
abbrev aLoc (d : Dev nD) : Loc nD τ sig := (SparseCore.T d).loc main_v0
abbrev fLoc (d : Dev nD) : Loc nD τ sig := (SparseCore.T d).loc main_v1
abbrev oLoc (d : Dev nD) : Loc nD τ sig := (SparseCore.T d).loc main_v2

/-! ## What the vector subcores compute -/

/-- Row `n` of a vector of 4096. -/
def ix4096 (n : ℕ) : S4096.Idx := fun
  | 0 => ⟨n % 4096, Nat.mod_lt _ (by decide)⟩
/-- Place `n` of the flat table. -/
def ixFlat (n : ℕ) : S131072000.Idx := fun
  | 0 => ⟨n % 131072000, Nat.mod_lt _ (by decide)⟩
/-- Lane `n` of a vector of 16. -/
def ix16 (n : ℕ) : S16.Idx := fun
  | 0 => ⟨n % 16, Nat.mod_lt _ (by decide)⟩

section Vals
variable [FloatOps F] [Named F]

abbrev kEps : F .f32 := Named.named κ "eps" 0x3651BA72#32
abbrev kEnt : F .f32 := Named.named κ "entropy" 0xBFAE63F8#32
abbrev kCme : F .f32 := Named.named κ "conf_minus_eps" 0x3F666632#32
abbrev kZero : F .f32 := Scalar.ofBits .f32 0x00000000#32

/-- Sixteen rows' contributions, from their targets, their adjusted row sums and their gathered entries. -/
def contrib (t : IVec S16 32) (a g : FVec F S16 .f32) : FVec F S16 .f32 :=
  select (cmpi .ne t (broadcast S16 0#32))
    (subf (subf (broadcast S16 kEnt) (mulf (broadcast S16 kEps) a)) (mulf (broadcast S16 kCme) g)) (broadcast S16 kZero)

variable (T : S4096.Idx → BitVec 32) (A : S4096.Idx → F .f32) (X : S131072000.Idx → F .f32)

/-- Chunk `k` of worker `w`: the targets, the adjusted row sums, the entries at the targets. -/
def tChunk (w k : ℕ) : IVec S16 32 := fun l => T (ix4096 (128 * w + (16 * k + (l 0).val)))
def aChunk (w k : ℕ) : FVec F S16 .f32 := fun l => A (ix4096 (128 * w + (16 * k + (l 0).val)))
def gChunk (w k : ℕ) : FVec F S16 .f32 := fun l =>
  X (ixFlat ((128 * w + (16 * k + (l 0).val)) * 32000 + (T (ix4096 (128 * w + (16 * k + (l 0).val)))).toNat))
def cChunk (w k : ℕ) : FVec F S16 .f32 := contrib (tChunk T w k) (aChunk A w k) (gChunk T X w k)

/-- Worker `w`'s sixteen lane sums after `k` chunks. -/
def acc (w : ℕ) : ℕ → FVec F S16 .f32
  | 0 => broadcast S16 kZero
  | k + 1 => addf (acc w k) (cChunk T A X w k)

/-- The partial sums: row `w` is worker `w`'s sixteen lanes. -/
def parts : S32x16.Idx → F .f32 := fun p => acc T A X (p 0).val 8 (ix16 (p 1).val)

end Vals

end Cert.Proof.KI
-- ==== Proof.KI.Tile.lean ====
/-
  The task a vector subcore runs: worker `2·s + c` fetches its 128 targets and its 128 adjusted row sums, forms the flat
  places of its rows' target entries, gathers those, and writes sixteen lane sums to its row of the partial sums.
-/
module

public import proofs.«01_k».proof.Proof.KI.Base

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v1_scv : Memref Cert.KernelIdeal.sig Kind.scVector Space.hbm Cert.KernelIdeal.S131072000 EltTy.f32)
local notation "tV" => (Memref.whole Cert.KernelIdeal.main_arg1_scv : Memref Cert.KernelIdeal.sig Kind.scVector Space.hbm Cert.KernelIdeal.S4096 EltTy.i32)
local notation "aV" => (Memref.whole Cert.KernelIdeal.main_v0_scv : Memref Cert.KernelIdeal.sig Kind.scVector Space.hbm Cert.KernelIdeal.S4096 EltTy.f32)
local notation "oV" => (Memref.whole Cert.KernelIdeal.main_v2_scv : Memref Cert.KernelIdeal.sig Kind.scVector Space.hbm Cert.KernelIdeal.S32x16 EltTy.f32)
local notation "s0V" => (Memref.whole Cert.KernelIdeal.cc1_scratch0 : Memref Cert.KernelIdeal.sig Kind.scVector Space.vmem Cert.KernelIdeal.S128 EltTy.i32)
local notation "s1V" => (Memref.whole Cert.KernelIdeal.cc1_scratch1 : Memref Cert.KernelIdeal.sig Kind.scVector Space.vmem Cert.KernelIdeal.S128 EltTy.i32)
local notation "s2V" => (Memref.whole Cert.KernelIdeal.cc1_scratch2 : Memref Cert.KernelIdeal.sig Kind.scVector Space.vmem Cert.KernelIdeal.S128 EltTy.f32)
local notation "s3V" => (Memref.whole Cert.KernelIdeal.cc1_scratch3 : Memref Cert.KernelIdeal.sig Kind.scVector Space.vmem Cert.KernelIdeal.S128 EltTy.f32)
local notation "s4V" => (Memref.whole Cert.KernelIdeal.cc1_scratch4 : Memref Cert.KernelIdeal.sig Kind.scVector Space.vmem Cert.KernelIdeal.S16 EltTy.f32)

section Tile

variable (d : Dev nD) (L : grid1.Coords)

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)

/-- The worker's number. -/
abbrev wk (L : grid1.Coords) : ℕ := 2 * (L 1).val + (L 0).val

/-- The worker's 128 targets, its 128 adjusted row sums, its row of partial sums and the whole flat table, as the task
    addresses them. -/
abbrev tK (L : grid1.Coords) : Memref sig .scVector .hbm S128 .i32 :=
  (tV).slice (Rect.unit (s := S4096) (k1_off1 L) S128.size (k1_off1_inb L)) (fun _ => rfl)
abbrev aK (L : grid1.Coords) : Memref sig .scVector .hbm S128 .f32 :=
  (aV).slice (Rect.unit (s := S4096) (k1_off1 L) S128.size (k1_off1_inb L)) (fun _ => rfl)
abbrev oK (L : grid1.Coords) : Memref sig .scVector .hbm S16 .f32 :=
  ((oV).slice (Rect.unit (s := S32x16) (k1_off2 L) S1x16.size (k1_off2_inb L)) (fun _ => rfl)).squeeze S16 squeezes_S1x16_S16
abbrev fK : Memref sig .scVector .hbm S131072000 .f32 :=
  (fV).slice (Rect.unit (s := S131072000) ![0] S131072000.size inb_S131072000_S131072000_0) (fun _ => rfl)

abbrev tSet (L : grid1.Coords) : Finset S4096.Idx := (tK L).view.set
abbrev aSet (L : grid1.Coords) : Finset S4096.Idx := (aK L).view.set
abbrev oSet (L : grid1.Coords) : Finset S32x16.Idx := (oK L).view.set

abbrev cGcell (d : Dev nD) (L : grid1.Coords) : GSem nD τ sig := (thrV d L, .dma cc1_scratch5.sem)
abbrev cAcell (d : Dev nD) (L : grid1.Coords) : GSem nD τ sig := (thrV d L, .dma cc1_scoped0.sem)
abbrev cBcell (d : Dev nD) (L : grid1.Coords) : GSem nD τ sig := (thrV d L, .dma cc1_scoped1.sem)
abbrev cCcell (d : Dev nD) (L : grid1.Coords) : GSem nD τ sig := (thrV d L, .dma cc1_scoped2.sem)

/-- The subcore's own semaphores at zero: the task's four and the rest. -/
theorem ownSems0_V :
    (ownSems0 (thrV d L) : sProp 𝕄)
      = iprop(semVal (cGcell d L) 0 ∗ semVal (cAcell d L) 0 ∗ semVal (cBcell d L) 0 ∗ semVal (cCcell d L) 0
          ∗ bigSep (((((ownCells (thrV d L)).erase (cGcell d L)).erase (cAcell d L)).erase (cBcell d L)).erase (cCcell d L)) fun g => semVal g 0) := by
  have hm : ∀ s : DmaSems sig S_, (SemLoc.dma s.sem : SemLoc sig).isScoped .scVector = true →
      ((thrV d L, SemLoc.dma s.sem) : GSem nD τ sig) ∈ ownCells (thrV d L) := fun s h => mem_ownCells.mpr ⟨rfl, h⟩
  have hne : ∀ s s' : DmaSems sig S_, (SemLoc.dma s.sem : SemLoc sig) ≠ SemLoc.dma s'.sem →
      ((thrV d L, SemLoc.dma s.sem) : GSem nD τ sig) ≠ (thrV d L, SemLoc.dma s'.sem) := fun s s' h e => h (congrArg Prod.snd e)
  unfold SparseCore.Cfg.ownSems0
  rw [SparseCore.bigSep_erase' (hm cc1_scratch5 (by decide)),
    SparseCore.bigSep_erase' (Finset.mem_erase.mpr ⟨hne cc1_scoped0 cc1_scratch5 (by decide), hm cc1_scoped0 (by decide)⟩),
    SparseCore.bigSep_erase' (Finset.mem_erase.mpr ⟨hne cc1_scoped1 cc1_scoped0 (by decide),
      Finset.mem_erase.mpr ⟨hne cc1_scoped1 cc1_scratch5 (by decide), hm cc1_scoped1 (by decide)⟩⟩),
    SparseCore.bigSep_erase' (Finset.mem_erase.mpr ⟨hne cc1_scoped2 cc1_scoped1 (by decide),
      Finset.mem_erase.mpr ⟨hne cc1_scoped2 cc1_scoped0 (by decide),
        Finset.mem_erase.mpr ⟨hne cc1_scoped2 cc1_scratch5 (by decide), hm cc1_scoped2 (by decide)⟩⟩⟩)]

abbrev scr (L : grid1.Coords) (b : Ref sig .scVector) : DevRef τ sig := (Proc.scVector (cV L) (jV L)).devRef b

/-- The subcore's own buffers: the task's five, each at some contents, and the rest. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ (∃ f, (thrV d L).loc cc1_scratch4 ↦{fullShare} f)
          ∗ bigSep ((((((ownRefs (τ := τ) (.scVector (cV L) (jV L))).erase (scr L cc1_scratch0)).erase (scr L cc1_scratch1)).erase
              (scr L cc1_scratch2)).erase (scr L cc1_scratch3)).erase (scr L cc1_scratch4))
              fun b => iprop(∃ f, ((d, b) : Loc nD τ sig) ↦{fullShare} f)) := by
  have hm : ∀ b : Ref sig .scVector, (scr L b).owner = .proc (Proc.scVector (cV L) (jV L)) → scr L b ∈ ownRefs (τ := τ) (.scVector (cV L) (jV L)) :=
    fun b h => SparseCore.Cfg.mem_ownRefs_of_owner (p := Proc.scVector (cV L) (jV L)) h
  have hne : ∀ b b' : Ref sig .scVector, b ≠ b' → scr L b ≠ scr L b' := fun b b' h e => h (Proc.devRef_injective _ e)
  unfold SparseCore.Cfg.ownBufs
  rw [SparseCore.bigSep_erase' (hm cc1_scratch0 rfl),
    SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide),
      Finset.mem_erase.mpr ⟨hne cc1_scratch2 cc1_scratch0 (by decide), hm cc1_scratch2 rfl⟩⟩),
    SparseCore.bigSep_erase' (Finset.mem_erase.mpr ⟨hne cc1_scratch3 cc1_scratch2 (by decide),
      Finset.mem_erase.mpr ⟨hne cc1_scratch3 cc1_scratch1 (by decide),
        Finset.mem_erase.mpr ⟨hne cc1_scratch3 cc1_scratch0 (by decide), hm cc1_scratch3 rfl⟩⟩⟩),
    SparseCore.bigSep_erase' (Finset.mem_erase.mpr ⟨hne cc1_scratch4 cc1_scratch3 (by decide),
      Finset.mem_erase.mpr ⟨hne cc1_scratch4 cc1_scratch2 (by decide),
        Finset.mem_erase.mpr ⟨hne cc1_scratch4 cc1_scratch1 (by decide),
          Finset.mem_erase.mpr ⟨hne cc1_scratch4 cc1_scratch0 (by decide), hm cc1_scratch4 rfl⟩⟩⟩⟩)]

variable [FloatOps F] [Named F]
variable (Tg : Buf (Elt F) (tLoc d)) (A : Buf (Elt F) (aLoc d)) (X : Buf (Elt F) (fLoc d)) (O₀ : Buf (Elt F) (oLoc d))

/-! ### The rows a task works on, as vectors of 128 -/

section Rows
variable (T : S4096.Idx → BitVec 32) (B : S4096.Idx → F .f32) (Y : S131072000.Idx → F .f32) (w : ℕ)

/-- Worker `w`'s targets, adjusted row sums, flat places of its target entries, and those entries. -/
def tRow : S128.Idx → BitVec 32 := fun j => T (ix4096 (128 * w + (j 0).val))
def aRow : S128.Idx → F .f32 := fun j => B (ix4096 (128 * w + (j 0).val))
def pRow : S128.Idx → BitVec 32 := fun j => BitVec.ofNat 32 ((128 * w + (j 0).val) * 32000) + T (ix4096 (128 * w + (j 0).val))
def gRow : S128.Idx → F .f32 := fun j => Y (ixFlat ((128 * w + (j 0).val) * 32000 + (T (ix4096 (128 * w + (j 0).val))).toNat))

end Rows

omit [FloatOps F] [Named F] in
theorem wk_lt : wk L < 32 := by
  have h0 : (L 0).val < 2 := (L 0).isLt
  have h1 : (L 1).val < 16 := (L 1).isLt
  unfold wk; omega

omit [FloatOps F] [Named F] in
/-- Where the worker's slices lie: place `j` is row `128·w + j`. -/
theorem tK_emb (j : S128.Idx) : (tK L).view.emb j = ix4096 (128 * wk L + (j 0).val) := by
  refine Shape.idx1_ext ?_
  show (k1_off1 L) 0 + 1 * (j 0).val = (128 * wk L + (j 0).val) % 4096
  rw [k1_off1_eq]
  have := wk_lt L
  have hj : (j 0).val < 128 := (j 0).isLt
  show 256 * (L 1).val + 128 * (L 0).val + 1 * (j 0).val = _
  unfold wk at *; omega

omit [FloatOps F] [Named F] in
theorem aK_emb (j : S128.Idx) : (aK L).view.emb j = ix4096 (128 * wk L + (j 0).val) := tK_emb L j

/-- Where the worker's row of partial sums lies: lane `x` of row `w`. -/
theorem oK_emb (x : S16.Idx) : (((oK L).view.emb x) 0).val = wk L ∧ (((oK L).view.emb x) 1).val = (x 0).val := by
  let y : S1x16.Idx := Shape.reshapeEquiv (s := S1x16) (s' := S16) squeezes_S1x16_S16.numel_eq x
  have hy : (y 0).val * 16 + (y 1).val = (x 0).val := by
    have h := Shape.rowMajor_reshapeEquiv (s := S1x16) (s' := S16) squeezes_S1x16_S16.numel_eq x
    rw [Shape.rowMajor_val_one] at h
    rw [← h]; exact (Shape.rowMajor_val_two y).symm
  have h0 : (y 0).val < 1 := (y 0).isLt
  constructor
  · show (k1_off2 L) 0 + 1 * (y 0).val = wk L
    rw [k1_off2_eq]
    show 2 * (L 1).val + (L 0).val + 1 * (y 0).val = wk L
    unfold wk; omega
  · show (k1_off2 L) 1 + 1 * (y 1).val = (x 0).val
    rw [k1_off2_eq]
    show 0 + 1 * (y 1).val = (x 0).val
    omega

omit [FloatOps F] [Named F] in
theorem read_tK : (tK L).view.read (Elt F) Tg = tRow Tg (wk L) := funext fun j =>
  ((View.read_apply _ _).trans (cast_eq _ _)).trans (congrArg Tg (tK_emb L j))

omit [FloatOps F] [Named F] in
theorem read_aK : (aK L).view.read (Elt F) A = aRow A (wk L) := funext fun j =>
  ((View.read_apply _ _).trans (cast_eq _ _)).trans (congrArg A (aK_emb L j))

/-- The words a chunk of flat places is formed with. -/
def idxPay (o : BitVec 32) (v : Vec F S16 .i32) : IVec S16 32 :=
  addi (muli (addi (broadcast S16 (Scalar.addi (Scalar.muli (Scalar.addi (Scalar.muli (BitVec.ofNat 32 (L 1).val) 2#32) (BitVec.ofNat 32 (L 0).val)) 128#32) o))
    (iota .scVector S16 32 [0] iota_S16_d0_w32_scVector)) (broadcast S16 32000#32)) v

/-- The flat place of a row's first entry, in words. -/
theorem idx_word (a b o x : ℕ) :
    ((BitVec.ofNat 32 a * BitVec.ofNat 32 2 + BitVec.ofNat 32 b) * BitVec.ofNat 32 128 + BitVec.ofNat 32 o + BitVec.ofNat 32 x) * BitVec.ofNat 32 32000
      = BitVec.ofNat 32 ((128 * (2 * a + b) + (o + x)) * 32000) := by
  apply BitVec.eq_of_toNat_eq
  simp only [BitVec.toNat_mul, BitVec.toNat_add, BitVec.toNat_ofNat, Nat.mod_mul_mod, Nat.mul_mod_mod, Nat.mod_add_mod, Nat.add_mod_mod]
  refine congrArg (· % 2 ^ 32) ?_
  ring

omit [FloatOps F] [Named F] in
theorem idxPay_at (o : ℕ) (ho : ∀ a, (![o] : Fin 1 → ℕ) a + S16.size a ≤ S128.size a) (x : S16.Idx) :
    idxPay (F := F) L (BitVec.ofNat 32 o) (View.readAt (Elt F) (s0V).view (Rect.unit (s := S128) ![o] S16.size ho).toLoadRect (tRow Tg (wk L))) x
      = pRow Tg (wk L) ((Rect.unit (s := S128) ![o] S16.size ho).emb x) := by
  have e : ((Rect.unit (s := S128) ![o] S16.size ho).emb x 0).val = o + (x 0).val := by
    show o + 1 * (x 0).val = _
    omega
  have e' : View.readAt (Elt F) (s0V).view (Rect.unit (s := S128) ![o] S16.size ho).toLoadRect (tRow Tg (wk L)) x
      = tRow Tg (wk L) ((Rect.unit (s := S128) ![o] S16.size ho).emb x) := rfl
  have e2 : iota .scVector S16 32 [0] iota_S16_d0_w32_scVector x = BitVec.ofNat 32 (x 0).val := by
    show BitVec.ofNat 32 (0 * 16 + (x 0).val) = _
    rw [Nat.zero_mul, Nat.zero_add]
  have e3 : ∀ (b c : BitVec 32) (i v : IVec S16 32), addi (muli (addi (broadcast S16 b) i) (broadcast S16 c)) v x = (b + i x) * c + v x :=
    fun _ _ _ _ => rfl
  unfold idxPay
  rw [e3, show ∀ a b : BitVec 32, Scalar.addi a b = a + b from fun _ _ => rfl, show ∀ a b : BitVec 32, Scalar.addi a b = a + b from fun _ _ => rfl,
    show ∀ a b : BitVec 32, Scalar.muli a b = a * b from fun _ _ => rfl, show ∀ a b : BitVec 32, Scalar.muli a b = a * b from fun _ _ => rfl]
  rw [e', e2]
  unfold pRow tRow
  rw [e]
  refine congrArg (· + Tg (ix4096 (128 * wk L + (o + (x 0).val)))) ?_
  exact idx_word (L 1).val (L 0).val o (x 0).val

omit [FloatOps F] [Named F] in
theorem pRow_toNat (hpre : ∀ j, (Tg j).toNat < 32000) (j : S128.Idx) :
    (pRow Tg (wk L) j).toNat = (128 * wk L + (j 0).val) * 32000 + (Tg (ix4096 (128 * wk L + (j 0).val))).toNat := by
  have h := hpre (ix4096 (128 * wk L + (j 0).val))
  have := wk_lt L
  have hj : (j 0).val < 128 := (j 0).isLt
  unfold pRow
  rw [BitVec.toNat_add, BitVec.toNat_ofNat]
  omega

omit [FloatOps F] [Named F] in
/-- Every flat place is within the table. -/
theorem pRow_inb (hpre : ∀ j, (Tg j).toNat < 32000) (x : S128.Idx) :
    ((s1V).view.read (Elt F) (pRow Tg (wk L)) x).toNat < S131072000.size gathers_S131072000_S128.axis := by
  have h := pRow_toNat d L Tg hpre x
  have h2 := hpre (ix4096 (128 * wk L + (x 0).val))
  have := wk_lt L
  have hj : (x 0).val < 128 := (x 0).isLt
  show (pRow Tg (wk L) x).toNat < 131072000
  rw [h]; omega

omit [FloatOps F] [Named F] in
/-- What the gather reads: the table at each row's flat place. -/
theorem gather_eq (hpre : ∀ j, (Tg j).toNat < 32000) (hn) (hin) :
    SparseCore.gatherPayload gathers_S131072000_S128 ((fK).view.read (Elt F) X)
      (SparseCore.rows (F := F) ((s1V).view.read (Elt F) (pRow Tg (wk L))) hn hin) = gRow Tg X (wk L) := by
  funext j
  unfold SparseCore.gatherPayload
  refine ((View.read_apply _ _).trans (cast_eq _ _)).trans (congrArg X (Shape.idx1_ext ?_))
  show 0 + 1 * ((gathers_S131072000_S128.idx _ j) gathers_S131072000_S128.axis).val = _
  rw [Shape.Gathers.idx_axis]
  unfold SparseCore.rows
  show 0 + 1 * (pRow Tg (wk L) (S128.rowMajor.symm (Fin.cast hn.symm (j gathers_S131072000_S128.axis')))).toNat = _
  have e : S128.rowMajor.symm (Fin.cast hn.symm (j gathers_S131072000_S128.axis')) = j := by
    rw [Equiv.symm_apply_eq]
    exact Fin.ext (Shape.rowMajor_val_one j).symm
  rw [e]
  show 0 + 1 * (pRow Tg (wk L) j).toNat = ((128 * wk L + (j 0).val) * 32000 + (Tg (ix4096 (128 * wk L + (j 0).val))).toNat) % 131072000
  rw [pRow_toNat d L Tg hpre]
  have h2 := hpre (ix4096 (128 * wk L + (j 0).val))
  have := wk_lt L
  have hj : (j 0).val < 128 := (j 0).isLt
  omega

omit [FloatOps F] [Named F] in
theorem chunk_t (o k : ℕ) (hk : o = 16 * k) (ho : ∀ a, (![o] : Fin 1 → ℕ) a + S16.size a ≤ S128.size a) (w : ℕ) :
    View.readAt (Elt F) (s0V).view (Rect.unit (s := S128) ![o] S16.size ho).toLoadRect (tRow Tg w) = tChunk Tg w k := funext fun x => by
  subst hk
  show Tg (ix4096 (128 * w + (16 * k + 1 * (x 0).val))) = _
  rw [Nat.one_mul]; rfl
omit [FloatOps F] [Named F] in
theorem chunk_a (o k : ℕ) (hk : o = 16 * k) (ho : ∀ a, (![o] : Fin 1 → ℕ) a + S16.size a ≤ S128.size a) (w : ℕ) :
    View.readAt (Elt F) (s2V).view (Rect.unit (s := S128) ![o] S16.size ho).toLoadRect (aRow A w) = aChunk A w k := funext fun x => by
  subst hk
  show A (ix4096 (128 * w + (16 * k + 1 * (x 0).val))) = _
  rw [Nat.one_mul]; rfl
omit [FloatOps F] [Named F] in
theorem chunk_g (o k : ℕ) (hk : o = 16 * k) (ho : ∀ a, (![o] : Fin 1 → ℕ) a + S16.size a ≤ S128.size a) (w : ℕ) :
    View.readAt (Elt F) (s3V).view (Rect.unit (s := S128) ![o] S16.size ho).toLoadRect (gRow Tg X w) = gChunk Tg X w k := funext fun x => by
  subst hk
  show X (ixFlat ((128 * w + (16 * k + 1 * (x 0).val)) * 32000 + (Tg (ix4096 (128 * w + (16 * k + 1 * (x 0).val)))).toNat)) = _
  rw [Nat.one_mul]; rfl

set_option maxHeartbeats 8000000 in
set_option maxRecDepth 16384 in
theorem tile_body (qx : PosShare TreeShare) (hF : (K (F := F)).Facts) (hpre : ∀ j, (Tg j).toNat < 32000) (O : CellTallies nD τ sig (HIx 1))
    (W : Waits sig (HIx 1)) (hO : ∀ g, O g none = 0) :
    (iprop(levAts (K (F := F)).L (K (F := F)).lev ∗ emp
        ∗ ((tLoc d ↦[tSet L]{fullShare} Tg) ∗ (aLoc d ↦[aSet L]{fullShare} A) ∗ (fLoc d ↦{qx} X) ∗ (oLoc d ↦[oSet L]{fullShare} O₀))
        ∗ scopedBufs (thrV d L) ∗ scopedSems0 (thrV d L) ∗ owes (thrV d L) O W) : sProp 𝕄)
      ⊢ wp frame (wpE (defs₀ (F := F)) 𝒱₀ (thrV d L) none) Set.univ
          (cc1__sc_partials L fV (Memref.isWhole_whole _) tV (Memref.isWhole_whole _) aV (Memref.isWhole_whole _) oV (Memref.isWhole_whole _)
            s0V (Memref.isWhole_whole _) s1V (Memref.isWhole_whole _) s2V (Memref.isWhole_whole _) s3V (Memref.isWhole_whole _)
            s4V (Memref.isWhole_whole _) cc1_scratch5 cc1_scoped0 cc1_scoped1 cc1_scoped2)
          fun _ => iprop(((tLoc d ↦[tSet L]{fullShare} Tg) ∗ (aLoc d ↦[aSet L]{fullShare} A) ∗ (fLoc d ↦{qx} X)
              ∗ (oLoc d ↦[oSet L]{fullShare} (parts (F := F) Tg A X : Buf (Elt F) (oLoc d))))
            ∗ scopedBufs (thrV d L) ∗ scopedSems0 (thrV d L)
            ∗ ∃ W', ⌜∀ p ∈ W', p ∈ W ∨ p.2 = none⌝ ∗ owes (thrV d L) O W') := by
  simp only [cc1__sc_partials_eq_skeleton]; unfold cc1__sc_partials_skel
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  rw [(K (F := F)).scopedBufs_V hF d (cV L) (jV L), SparseCore.Cfg.scopedSems0_V (Val := Elt F) d (cV L) (jV L), ownSems0_V, ownBufs_V]
  iintro ⟨#Hlv, -, ⟨Ht, Ha, Hx, Ho⟩, ⟨⟨%f0, H0⟩, ⟨%f1, H1⟩, ⟨%f2, H2⟩, ⟨%f3, H3⟩, ⟨%f4, H4⟩, Hbufs⟩, ⟨HsemG, HsemA, HsemB, HsemC, Hsems⟩, HO⟩
  ihave Hmw := (show levAts (K (F := F)).L (K (F := F)).lev ⊢ Transfers.MayWaits (thrV d L) (default : HIx 1) O from
    (K (F := F)).mayWaits_none (thr := thrV d L) hO) $$ Hlv
  ihave Ht' := (Entails.of_eq (show (tLoc d ↦[tSet L]{fullShare} Tg : sProp 𝕄) = ((tK L).view.loc (thrV d L) ↦[(tK L).view.set]{fullShare} Tg) from rfl)) $$ Ht
  ihave Ha' := (Entails.of_eq (show (aLoc d ↦[aSet L]{fullShare} A : sProp 𝕄) = ((aK L).view.loc (thrV d L) ↦[(aK L).view.set]{fullShare} A) from rfl)) $$ Ha
  ihave Ho' := (Entails.of_eq (show (oLoc d ↦[oSet L]{fullShare} O₀ : sProp 𝕄) = ((oK L).view.loc (thrV d L) ↦[(oK L).view.set]{fullShare} O₀) from rfl)) $$ Ho
  ihave Hx' := (Entails.of_eq (show (fLoc d ↦{qx} X : sProp 𝕄) = ((fV).view.loc (thrV d L) ↦{qx} X) from rfl)) $$ Hx
  ihave H0' := (Entails.of_eq (show ((thrV d L).loc cc1_scratch0 ↦{fullShare} f0 : sProp 𝕄) = ((s0V).view.loc (thrV d L) ↦{fullShare} f0) from rfl)) $$ H0
  ihave H1' := (Entails.of_eq (show ((thrV d L).loc cc1_scratch1 ↦{fullShare} f1 : sProp 𝕄) = ((s1V).view.loc (thrV d L) ↦{fullShare} f1) from rfl)) $$ H1
  ihave H2' := (Entails.of_eq (show ((thrV d L).loc cc1_scratch2 ↦{fullShare} f2 : sProp 𝕄) = ((s2V).view.loc (thrV d L) ↦{fullShare} f2) from rfl)) $$ H2
  ihave H3' := (Entails.of_eq (show ((thrV d L).loc cc1_scratch3 ↦{fullShare} f3 : sProp 𝕄) = ((s3V).view.loc (thrV d L) ↦{fullShare} f3) from rfl)) $$ H3
  ihave H4' := (Entails.of_eq (show ((thrV d L).loc cc1_scratch4 ↦{fullShare} f4 : sProp 𝕄) = ((s4V).view.loc (thrV d L) ↦{fullShare} f4) from rfl)) $$ H4
  sl_exec
  have hd0 : View.write (Elt F) (s0V).view f0 (tile_body.sl.dma0 d L Tg) Finset.univ = tRow Tg (wk L) :=
    (View.write_whole_univ _ _ _).trans (read_tK d L Tg)
  have hd2 : View.write (Elt F) (s2V).view f2 (tile_body.sl.dma0_1 d L A) Finset.univ = aRow A (wk L) :=
    (View.write_whole_univ _ _ _).trans (read_aK d L A)
  have hd1 : (s1V).view.writes (Elt F) (s1V).view.junk (tile_body.sl.H1'_8 d L Tg f0) = pRow Tg (wk L) := by
    funext y
    show (s1V).view.read (Elt F) ((s1V).view.writes (Elt F) (s1V).view.junk (tile_body.sl.H1'_8 d L Tg f0)) y = _
    refine View.read_writes_apply_of_pieces (Val := Elt F) (s1V).view (s1V).view.junk (pRow Tg (wk L)) _ ?_ y ?_
    · unfold tile_body.sl.H1'_8
      rw [hd0]
      simp only [List.forall_mem_cons, List.not_mem_nil, false_imp_iff, implies_true, and_true]
      refine ⟨?_, ?_, ?_, ?_, ?_, ?_, ?_, ?_⟩
      · intro x; rw [← idxPay_at d L Tg 112]; unfold k1_pay12; simp only [shapeCast_self]; rfl
      · intro x; rw [← idxPay_at d L Tg 96]; unfold k1_pay11 k1_pay10; simp only [shapeCast_self]; rfl
      · intro x; rw [← idxPay_at d L Tg 80]; unfold k1_pay9; simp only [shapeCast_self]; rfl
      · intro x; rw [← idxPay_at d L Tg 64]; unfold k1_pay8; simp only [shapeCast_self]; rfl
      · intro x; rw [← idxPay_at d L Tg 48]; unfold k1_pay7; simp only [shapeCast_self]; rfl
      · intro x; rw [← idxPay_at d L Tg 32]; unfold k1_pay6 k1_pay5 k1_pay4; simp only [shapeCast_self]; rfl
      · intro x; rw [← idxPay_at d L Tg 16]; unfold k1_pay3; simp only [shapeCast_self]; rfl
      · intro x; rw [← idxPay_at d L Tg 0]; unfold k1_pay2; simp only [shapeCast_self]; rfl
    · exact View.cover_of_tiled (s := S128) (tile_body.sl.H1'_8 d L Tg f0) (fun _ => 16) (by rfl) y

  ihave H0' := (Entails.of_eq (congrArg (fun f => ((s0V).view.loc (thrV d L) ↦{fullShare} f : sProp 𝕄)) hd0)) $$ H0'
  ihave H2' := (Entails.of_eq (congrArg (fun f => ((s2V).view.loc (thrV d L) ↦{fullShare} f : sProp 𝕄)) hd2)) $$ H2'
  ihave H1' := (Entails.of_eq (congrArg (fun f => ((s1V).view.loc (thrV d L) ↦{fullShare} f : sProp 𝕄)) hd1)) $$ H1'
  -- the gather: the whole table's share, the gathered row's buffer and the list's
  ihave Hxs := (pointsTo_split_subset (q := qx) (f := X) (S := Finset.univ) (Finset.subset_univ (fK).view.set)).1 $$ Hx'
  icases Hxs with ⟨Hxs, Hxr⟩
  have hs3 : (s3V).view.set = Finset.univ := View.set_whole _
  have hs1 : (s1V).view.set = Finset.univ := View.set_whole _
  ihave H3'' := (Entails.of_eq (show ((s3V).view.loc (thrV d L) ↦{fullShare} f3 : sProp 𝕄)
      = (s3V).view.loc (thrV d L) ↦[(s3V).view.set]{fullShare} f3 by rw [hs3])) $$ H3'
  ihave H1'' := (Entails.of_eq (show ((s1V).view.loc (thrV d L) ↦{fullShare} (pRow Tg (wk L) : Buf (Elt F) ((s1V).view.loc (thrV d L))) : sProp 𝕄)
      = (s1V).view.loc (thrV d L) ↦[(s1V).view.set]{fullShare} pRow Tg (wk L) by rw [hs1])) $$ H1'
  have hN : ∀ h : S131072000.Gathers 0 S128, ∑ j, ((s3V).slice (S128.rowRect h.axis' j) (S128.stride_rowRect h.axis' j)).view.dmaCredit
      = (s3V).view.dmaCredit := by decide
  iapply (SparseCore.wp_indirectGatherLocal countersEmb 𝒱₀ (thrV d L) none (hg := gathers_S131072000_S128) (default : HIx 1)
      (s3V).view.dmaCredit (hN _) (by decide) (pRow_inb d L Tg hpre)) $$ [Hxs H3'' H1'' HsemG]
  · isplitl [Hxs]; · iexact Hxs
    isplitl [H3'']; · iexact H3''
    isplitl [H1'']; · iexact H1''
    iexact HsemG
  iintro Hfl
  sl_exec
  iapply (Transfers.wp_waitLocalO countersEmb 𝒱₀ (thrV d L) none (default : HIx 1) (rfl : (s3V).view.dmaCredit = _)) $$ [Hfl HO]
  · isplitl [Hfl]; · iexact Hfl
    isplitl [HO]; · iexact HO
    iapply (Transfers.MayWaits.elim (SemLoc.dma cc1_scratch5.sem)) $$ Hmw
  iintro ⟨⟨H3', Hxs, H1'⟩, HsemG, HO⟩
  ihave Hx' := (pointsTo_split_subset (q := qx) (f := X) (S := Finset.univ) (Finset.subset_univ (fK).view.set)).2 $$ [Hxs Hxr]; · isplitl [Hxs] <;> iassumption
  ihave H3' := (Entails.of_eq (show ((s3V).view.loc (thrV d L) ↦[(s3V).view.set]{fullShare}
        (s3V).view.write (Elt F) f3 (SparseCore.gatherPayload gathers_S131072000_S128 ((fK).view.read (Elt F) X)
          (SparseCore.rows (F := F) ((s1V).view.read (Elt F) (pRow Tg (wk L))) rfl (pRow_inb d L Tg hpre))) Finset.univ : sProp 𝕄)
      = (s3V).view.loc (thrV d L) ↦{fullShare} gRow Tg X (wk L) by
        rw [hs3]
        exact congrArg (fun f => ((s3V).view.loc (thrV d L) ↦{fullShare} f : sProp 𝕄)) ((View.write_whole_univ _ _ _).trans (gather_eq d L Tg X hpre _ _)))) $$ H3'
  ihave H1' := (Entails.of_eq (show ((s1V).view.loc (thrV d L) ↦[(s1V).view.set]{fullShare} _ : sProp 𝕄)
      = (s1V).view.loc (thrV d L) ↦{fullShare} _ by rw [hs1])) $$ H1'
  sl_exec
  sl_step
  have hlist : ∃ rest, tile_body.sl.H4'_1 d L Tg A X = ⟨Rect.unit (s := S16) ![0] S16.size inb_S16_S16_0, acc Tg A X (wk L) 8⟩ :: rest := by
    unfold tile_body.sl.H4'_1
    refine ⟨_, congrArg₂ List.cons (congrArg (Sigma.mk _) ?_) rfl⟩
    rw [chunk_t d Tg 0 0 rfl, chunk_a d A 0 0 rfl, chunk_g d Tg X 0 0 rfl,
      chunk_t d Tg 16 1 rfl, chunk_a d A 16 1 rfl, chunk_g d Tg X 16 1 rfl,
      chunk_t d Tg 32 2 rfl, chunk_a d A 32 2 rfl, chunk_g d Tg X 32 2 rfl,
      chunk_t d Tg 48 3 rfl, chunk_a d A 48 3 rfl, chunk_g d Tg X 48 3 rfl,
      chunk_t d Tg 64 4 rfl, chunk_a d A 64 4 rfl, chunk_g d Tg X 64 4 rfl,
      chunk_t d Tg 80 5 rfl, chunk_a d A 80 5 rfl, chunk_g d Tg X 80 5 rfl,
      chunk_t d Tg 96 6 rfl, chunk_a d A 96 6 rfl, chunk_g d Tg X 96 6 rfl,
      chunk_t d Tg 112 7 rfl, chunk_a d A 112 7 rfl, chunk_g d Tg X 112 7 rfl]
    unfold k1_pay1 k1_pay25 k1_pay20 k1_pay17 k1_pay13 k1_pay14 k1_pay15 k1_pay16 k1_pay18 k1_pay19 k1_pay21 k1_pay22 k1_pay23 k1_pay24 k1_pay26 k1_pay27
    simp only [shapeCast_self]
    rfl
  have hv : tile_body.sl.dma26 d L Tg A X f4 = acc Tg A X (wk L) 8 := by
    obtain ⟨rest, hr⟩ := hlist
    unfold tile_body.sl.dma26
    rw [hr]
    exact funext fun y => View.read_writes_cons_unit_of_mem _ _ _ _ _ y y rfl fun a => by
      have := inb_S16_S16_0 a; omega
  have hout : (iprop((oK L).view.loc (thrV d L) ↦[(oK L).view.set]{fullShare}
        (oK L).view.writes (Elt F) O₀ [⟨Rect.whole S16, tile_body.sl.dma26 d L Tg A X f4⟩]) : sProp 𝕄)
      = (oLoc d ↦[oSet L]{fullShare} (parts (F := F) Tg A X : Buf (Elt F) (oLoc d))) := by
    rw [hv]
    refine pointsTo_congr fun i hi => ?_
    obtain ⟨x, -, rfl⟩ := Finset.mem_map.mp hi
    have h := congrFun (View.read_writes_whole (Val := Elt F) (oK L).view O₀ (acc Tg A X (wk L) 8)) x
    rw [View.read_apply] at h
    refine ((cast_eq _ _).symm.trans h).trans ?_
    have e := oK_emb L x
    show _ = acc Tg A X (((oK L).view.emb x) 0).val 8 (ix16 (((oK L).view.emb x) 1).val)
    rw [e.1, e.2]
    refine congrArg _ (Shape.idx1_ext ?_)
    exact (Nat.mod_eq_of_lt (x 0).isLt).symm
  ihave Ho' := (Entails.of_eq hout) $$ Ho'
  isplitl [Ht' Ha' Hx' Ho']
  · isplitl [Ht']; · iexact Ht'
    isplitl [Ha']; · iexact Ha'
    isplitl [Hx']; · iexact Hx'
    iexact Ho'
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile
end Cert.Proof.KI
-- ==== Proof.KI.Tc.lean ====
/-
  The TensorCore kernel: grid point `5·i + j` adds column block `j` of row block `i` to the row block's sums; the first column
  block's sums have the rows' entries of column 0 taken off.
-/
module

public import proofs.«01_k».proof.Proof.KI.Base
public import Idealize.ShloMosaic.Lib.Pipeline.RegionsLoop
public import Idealize.ShloMosaic.Lib.Pipeline.ValueKit.Geometry

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}

local notation "𝕄" => MT nD τ sig (HIx 1) (Elt F) ℕ UU ℕ

/-! ## The values -/

/-- Entry (`r`, `c`) of the table, of a block of it; row `r` of a block of rows. -/
def ixX (r c : ℕ) : S4096x32000.Idx := fun
  | 0 => ⟨r % 4096, Nat.mod_lt _ (by decide)⟩
  | 1 => ⟨c % 32000, Nat.mod_lt _ (by decide)⟩
def ixB (r c : ℕ) : S256x6400.Idx := fun
  | 0 => ⟨r % 256, Nat.mod_lt _ (by decide)⟩
  | 1 => ⟨c % 6400, Nat.mod_lt _ (by decide)⟩
def ix256 (r : ℕ) : S256.Idx := fun
  | 0 => ⟨r % 256, Nat.mod_lt _ (by decide)⟩

/-- Block (`i`, `j`) of the table. -/
def xBlk (X : S4096x32000.Idx → F .f32) (i j : ℕ) : S256x6400.Idx → F .f32 := fun y =>
  X (ixX (256 * i + (y 0).val) (6400 * j + (y 1).val))

/-- A block's column 0. -/
def col0 (x : S256x6400.Idx → F .f32) : S256x1.Idx → F .f32 := fun y => x (ixB (y 0).val 0)

section
variable [FloatOps F] [Named F]

/-- Row block `i`'s sums after column block `j`. -/
def adjBlk (X : S4096x32000.Idx → F .f32) (i : ℕ) : ℕ → FVec F S256 .f32
  | 0 => k0_pay2 (xBlk X i 0) (col0 (xBlk X i 0))
  | j + 1 => k0_pay3 (xBlk X i (j + 1)) (adjBlk X i j)

/-- The adjusted row sums. -/
def adjArr (X : S4096x32000.Idx → F .f32) : S4096.Idx → F .f32 := fun n =>
  adjBlk X ((n 0).val / 256) 4 (ix256 (n 0).val)

end

/-! ## The two conditions of the body -/

theorem cond1_iff (i : grid0.Coords) : k0_cond1 i = 1#1 ↔ (i 1).val = 0 := by
  have h : (i 1).val < 5 := (i 1).isLt
  unfold k0_cond1
  generalize (i 1).val = j at h
  interval_cases j <;> decide

theorem cond2_iff (i : grid0.Coords) : k0_cond2 i = 1#1 ↔ (i 1).val ≠ 0 := by
  have h : (i 1).val < 5 := (i 1).isLt
  unfold k0_cond2
  generalize (i 1).val = j at h
  interval_cases j <;> decide

theorem idle_false (i : grid0.Coords) : cfg0.idle 1 i = false := by
  show (!(k0_cond1 i == 1#1) && !(k0_cond2 i == 1#1)) = false
  by_cases h : (i 1).val = 0
  · rw [(cond1_iff i).mpr h]; rfl
  · rw [(cond2_iff i).mpr h]; exact Bool.and_false _

/-! ## The body -/

theorem zero_off1 (a : Fin 1) (n : ℕ) : (![0] : Fin 1 → ℕ) a + n = n := by
  fin_cases a; exact Nat.zero_add n

/-- A whole block read at the origin; its column 0; a whole block of rows. -/
theorem readAt_block (M0 : Memref sig .tc .vmem S256x6400 .f32) (f : M0.view.ty.Contents (Elt F)) :
    View.readAt (Elt F) M0.view (Rect.unit (s := S256x6400) ![0, 0] S256x6400.size inb_S256x6400_S256x6400_0_0).toLoadRect f
      = M0.view.read (Elt F) f := funext fun y =>
  congrArg (M0.view.read (Elt F) f) (funext fun a => Fin.ext (by
    fin_cases a
    · show 0 + 1 * (y 0).val = (y 0).val; omega
    · show 0 + 1 * (y 1).val = (y 1).val; omega))
theorem readAt_col (M0 : Memref sig .tc .vmem S256x6400 .f32) (f : M0.view.ty.Contents (Elt F)) :
    View.readAt (Elt F) M0.view (Rect.unit (s := S256x6400) ![0, 0] S256x1.size inb_S256x6400_S256x1_0_0).toLoadRect f
      = col0 (M0.view.read (Elt F) f) := funext fun y =>
  congrArg (M0.view.read (Elt F) f) (funext fun a => Fin.ext (by
    have h0 : (y 0).val < 256 := (y 0).isLt
    have h1 : (y 1).val < 1 := (y 1).isLt
    fin_cases a
    · show 0 + 1 * (y 0).val = (y 0).val % 256; omega
    · show 0 + 1 * (y 1).val = 0 % 6400; omega))
theorem readAt_rows (M1 : Memref sig .tc .vmem S256 .f32) (f : M1.view.ty.Contents (Elt F)) :
    View.readAt (Elt F) M1.view (Rect.unit (s := S256) ![0] S256.size inb_S256_S256_0).toLoadRect f
      = M1.view.read (Elt F) f := funext fun y =>
  congrArg (M1.view.read (Elt F) f) (funext fun a => Fin.ext (by
    fin_cases a
    show 0 + 1 * (y 0).val = (y 0).val; omega))

section Body
variable [FloatOps F] [Named F] (d : Dev nD)

variable (i : grid0.Coords) (M0 : Memref sig .tc .vmem S256x6400 .f32) (h0 : M0.IsWhole) (M1 : Memref sig .tc .vmem S256 .f32) (h1 : M1.IsWhole)

set_option maxRecDepth 16384 in
/-- The first column block: the result's buffer is written afresh. -/
theorem body_first (hi : (i 1).val = 0) (X : S256x6400.Idx → F .f32) (E : Set ℕ) (Q : PUnit → sProp 𝕄) :
    (iprop(owns (SparseCore.T d) M0 fullShare X ∗ (∃ Y, owns (SparseCore.T d) M1 fullShare Y)
        ∗ (iprop(owns (SparseCore.T d) M0 fullShare X ∗ owns (SparseCore.T d) M1 fullShare (k0_pay2 X (col0 X))) -∗ Q ⟨⟩)) : sProp 𝕄)
      ⊢ wp frame (wpE (defs₀ (F := F)) 𝒱₀ (SparseCore.T d) none) E (cc0__rowsum_body i M0 h0 M1 h1) Q := by
  rw [cc0__rowsum_body_eq_skeleton]; unfold cc0__rowsum_body_skel
  simp only [dif_pos ((cond1_iff i).mpr hi), dif_neg (fun h => (cond2_iff i).mp h hi)]
  unfold owns
  iintro ⟨⟨%f0, %hf0, H0⟩, ⟨%Y, %f1, -, H1⟩, Hk⟩
  sl_exec!
  sl_step
  iapply Hk
  isplitl [H0]
  · iexists f0; isplitr; · ipureintro; exact hf0
    iexact H0
  iexists _; isplitr; swap; · iexact H1
  ipureintro
  have e : View.readAt (Elt F) M0.view (Rect.unit (s := S256x6400) ![0, 0] S256x6400.size inb_S256x6400_S256x6400_0_0).toLoadRect f0 = X :=
    (readAt_block M0 f0).trans hf0
  have e' : View.readAt (Elt F) M0.view (Rect.unit (s := S256x6400) ![0, 0] S256x1.size inb_S256x6400_S256x1_0_0).toLoadRect f0 = col0 X :=
    (readAt_col M0 f0).trans (congrArg col0 hf0)
  exact funext fun y => (View.read_writes_cons_unit_of_mem _ _ _ _ _ y y rfl fun a => (zero_off1 a _).symm).trans
    (congrFun (congrArg₂ k0_pay2 e e') y)

set_option maxRecDepth 16384 in
/-- A later column block: added to what the result's buffer holds. -/
theorem body_next (hi : (i 1).val ≠ 0) (X : S256x6400.Idx → F .f32) (Y : S256.Idx → F .f32) (E : Set ℕ) (Q : PUnit → sProp 𝕄) :
    (iprop(owns (SparseCore.T d) M0 fullShare X ∗ owns (SparseCore.T d) M1 fullShare Y
        ∗ (iprop(owns (SparseCore.T d) M0 fullShare X ∗ owns (SparseCore.T d) M1 fullShare (k0_pay3 X Y)) -∗ Q ⟨⟩)) : sProp 𝕄)
      ⊢ wp frame (wpE (defs₀ (F := F)) 𝒱₀ (SparseCore.T d) none) E (cc0__rowsum_body i M0 h0 M1 h1) Q := by
  rw [cc0__rowsum_body_eq_skeleton]; unfold cc0__rowsum_body_skel
  simp only [dif_neg (fun h => hi ((cond1_iff i).mp h)), dif_pos ((cond2_iff i).mpr hi)]
  unfold owns
  iintro ⟨⟨%f0, %hf0, H0⟩, ⟨%f1, %hf1, H1⟩, Hk⟩
  sl_exec!
  sl_step
  iapply Hk
  isplitl [H0]
  · iexists f0; isplitr; · ipureintro; exact hf0
    iexact H0
  iexists _; isplitr; swap; · iexact H1
  ipureintro
  have e : View.readAt (Elt F) M0.view (Rect.unit (s := S256x6400) ![0, 0] S256x6400.size inb_S256x6400_S256x6400_0_0).toLoadRect f0 = X :=
    (readAt_block M0 f0).trans hf0
  have e' : View.readAt (Elt F) M1.view (Rect.unit (s := S256) ![0] S256.size inb_S256_S256_0).toLoadRect f1 = Y :=
    (readAt_rows M1 f1).trans hf1
  exact funext fun y => (View.read_writes_cons_unit_of_mem _ _ _ _ _ y y rfl fun a => (zero_off1 a _).symm).trans
    (congrFun (congrArg₂ k0_pay3 e e') y)

end Body

/-! ## The pipeline's proof data, from a valuation of the TensorCore's buffers -/

section Region
variable [FloatOps F] [Named F]
variable (W₀ : (d : Dev nD) → (b : Ref sig .tc) → Buf (Elt F) ((SparseCore.T d : Thread nD τ).loc b))

/-- The adjusted row sums of the table the valuation holds. -/
abbrev adj (d : Dev nD) : S4096.Idx → F .f32 := adjArr (W₀ d main_arg0)

/-- Before every point the TensorCore owes its starts; its recorded waits are at the lowest level. -/
def dat (d : Dev nD) : Dat τ (Elt F) (HIx 1) ℕ UU ℕ cfg0 d where
  A w := W₀ d (Pipeline.arrRef spec0 w)
  after w t := match w with
    | ⟨0, _⟩ => xBlk (W₀ d main_arg0) (t.val / 5) (t.val % 5)
    | ⟨1, _⟩ => adjBlk (W₀ d main_arg0) (t.val / 5) (t.val % 5)
  Φ _ := Pipeline.scopedRest (Ix := HIx 1) (Name := ℕ) (U := UU) (Lvl := ℕ) (Val := Elt F) spec0 d
  q _ := fullShare
  owed _ := (K (F := F)).Otc d 0
  recorded _ := {p | (K (F := F)).lev (SparseCore.T d, p.1) p.2 ≤ 0}

abbrev adm (p : Fin 1) : (pcfgs (F := F) p).Adm := (cfgs p).toPCfg_adm

def pdats : (p : Fin 1) → (d : Dev nD) → Dat τ (Elt F) (HIx 1) ℕ UU ℕ (Pipeline.pin (pcfgs (F := F)) adm p) d
  | ⟨0, _⟩ => fun d => dat W₀ d

theorem coord0 (t : Fin grid0.N) : (grid0.coords t 0).val = t.val / 5 % 16 :=
  Pipeline.Grid.coords_val t 0 (by decide) rfl
theorem coord1 (t : Fin grid0.N) : (grid0.coords t 1).val = t.val % 5 :=
  (Pipeline.Grid.coords_val (S := 1) t 1 (by decide) rfl).trans (by rw [Nat.div_one]; rfl)
theorem point_lt (t : Fin grid0.N) : t.val < 80 := lt_of_lt_of_eq t.isLt N_0

theorem word_val (n : ℕ) (h : n < 80) : (BitVec.ofNat 32 n).toNat = n := by
  rw [BitVec.toNat_ofNat]; exact Nat.mod_eq_of_lt (by omega)

/-- Where the blocks lie. -/
theorem index00 (t : Fin cfg0.N) : (cfg0.win 0).index t 0 = t.val / 5 := by
  have ht := point_lt t
  have c0 := coord0 t
  refine (show (cfg0.win 0).index t 0 = (BitVec.ofNat 32 (grid0.coords t 0).val).toNat from rfl).trans ?_
  rw [word_val _ (by omega)]; omega
theorem index01 (t : Fin cfg0.N) : (cfg0.win 0).index t 1 = t.val % 5 := by
  have ht := point_lt t
  have c0 := coord1 t
  refine (show (cfg0.win 0).index t 1 = (BitVec.ofNat 32 (grid0.coords t 1).val).toNat from rfl).trans ?_
  rw [word_val _ (by omega)]; omega
theorem index10 (t : Fin cfg0.N) : (cfg0.win 1).index t 0 = t.val / 5 := by
  have ht := point_lt t
  have c0 := coord0 t
  refine (show (cfg0.win 1).index t 0 = (BitVec.ofNat 32 (grid0.coords t 0).val).toNat from rfl).trans ?_
  rw [word_val _ (by omega)]; omega

theorem emb_blk0 (t : Fin cfg0.N) (y : S256x6400.Idx) :
    ((cfg0.win 0).blk t).view.emb y = ixX (256 * (t.val / 5) + (y 0).val) (6400 * (t.val % 5) + (y 1).val) := by
  have h0 : (y 0).val < 256 := (y 0).isLt
  have h1 : (y 1).val < 6400 := (y 1).isLt
  have ht := point_lt t
  have e0 : (((cfg0.win 0).blk t).view.emb y 0).val = (256 * (t.val / 5) + (y 0).val) % 4096 := by
    refine (Pipeline.Window.rect_emb_val (cfg0.win 0) t y 0).trans ?_
    rw [index00]
    show t.val / 5 * 256 + (y 0).val = _
    omega
  have e1 : (((cfg0.win 0).blk t).view.emb y 1).val = (6400 * (t.val % 5) + (y 1).val) % 32000 := by
    refine (Pipeline.Window.rect_emb_val (cfg0.win 0) t y 1).trans ?_
    rw [index01]
    show t.val % 5 * 6400 + (y 1).val = _
    omega
  exact funext fun | 0 => Fin.ext e0 | 1 => Fin.ext e1

theorem emb_blk1 (t : Fin cfg0.N) (y : S256.Idx) : ((((cfg0.win 1).blk t).view.emb y) 0).val = 256 * (t.val / 5) + (y 0).val := by
  refine (Pipeline.Window.rect_emb_val (cfg0.win 1) t y 0).trans ?_
  rw [index10]
  show t.val / 5 * 256 + (y 0).val = _
  omega

/-- A block read out of the table. -/
theorem read_blk0 (d : Dev nD) (t : Fin cfg0.N) (X : Buf (Elt F) (xLoc d)) :
    ((cfg0.win 0).blk t).view.read (Elt F) X = xBlk X (t.val / 5) (t.val % 5) := funext fun y =>
  ((View.read_apply _ _).trans (cast_eq _ _)).trans (congrArg X (emb_blk0 t y))

theorem before0 (d : Dev nD) (t : Fin cfg0.N) (y : (cfg0.win 0).block.Idx → Elt F (cfg0.win 0).elt) :
    (dat W₀ d).before 0 t y = xBlk (W₀ d main_arg0) (t.val / 5) (t.val % 5) := by
  rw [Pipeline.Dat.before_fetched _ _ _ (fetch0_0 t)]
  exact (show (dat W₀ d).fetched 0 t y = ((cfg0.win 0).blk t).view.read (Elt F) (W₀ d main_arg0) from rfl).trans (read_blk0 d t _)

theorem before1 (d : Dev nD) (t : Fin cfg0.N) (ht : t.val % 5 ≠ 0) (y : (cfg0.win 1).block.Idx → Elt F (cfg0.win 1).elt) :
    (dat W₀ d).before 1 t y = adjBlk (W₀ d main_arg0) (t.val / 5) (t.val % 5 - 1) := by
  have ht0 : t.val ≠ 0 := fun h => ht (by rw [h])
  rw [Pipeline.Dat.before_out_kept _ 1 rfl t ht0
    (Bool.eq_false_iff.mpr fun h => ht (by
      have := (flush0_1 ⟨t.val - 1, Nat.lt_of_le_of_lt (Nat.sub_le _ _) t.isLt⟩).mp h
      have h' : (t.val - 1) % 5 = 4 := this
      omega)) (fun i => idle_false i) (fun _ _ => rfl)]
  show adjBlk (W₀ d main_arg0) ((t.val - 1) / 5) ((t.val - 1) % 5) = _
  rw [show (t.val - 1) / 5 = t.val / 5 by omega, show (t.val - 1) % 5 = t.val % 5 - 1 by omega]

theorem body_obligation (d : Dev nD) : BodyObligation (dat W₀ d) (defs₀ (F := F)) 𝒱₀ (none : HIx 1) Set.univ := fun t => by
  rw [bigSep_W0, bigSep_W0]
  have hi : idle0 1 (grid0.coords t) = false := idle_false _
  rw [show (dat W₀ d).Φ t.succ = (dat W₀ d).Φ t.castSucc from rfl,
    show (dat W₀ d).owesAt none t.succ = (dat W₀ d).owesAt none t.castSucc from rfl]
  iintro ⟨HΦ, Howes, ⟨%d0, H0⟩, ⟨%d1, H1⟩⟩
  rw [before0]
  by_cases ht : t.val % 5 = 0
  · iapply (body_first d (grid0.coords t) (win0_0.stage (cfg0.slots t 0)) (hstage0_0 ((cfg0.slots t 0).cast nbuf0_0)) (win0_1.stage (cfg0.slots t 1))
      (hstage0_1 ((cfg0.slots t 1).cast nbuf0_1)) ((coord1 t).trans ht) _ Set.univ _)
    isplitl [H0]; · iexact H0
    isplitl [H1]; · iexists _; iexact H1
    iintro ⟨H0, H1⟩
    isplitl [HΦ]; · iexact HΦ
    isplitl [Howes]; · iexact Howes
    isplitl [H0]; · iexact H0
    dsimp only [dat]
    rw [hi, ht]
    iexact H1
  · rw [before1 _ _ _ ht]
    iapply (body_next d (grid0.coords t) (win0_0.stage (cfg0.slots t 0)) (hstage0_0 ((cfg0.slots t 0).cast nbuf0_0)) (win0_1.stage (cfg0.slots t 1))
      (hstage0_1 ((cfg0.slots t 1).cast nbuf0_1)) (fun h => ht ((coord1 t).symm.trans h)) _ _ Set.univ _)
    isplitl [H0]; · iexact H0
    isplitl [H1]; · iexact H1
    iintro ⟨H0, H1⟩
    isplitl [HΦ]; · iexact HΦ
    isplitl [Howes]; · iexact Howes
    isplitl [H0]; · iexact H0
    dsimp only [dat]
    obtain ⟨j, hj⟩ : ∃ j, t.val % 5 = j + 1 := ⟨t.val % 5 - 1, by omega⟩
    rw [hi, hj]
    iexact H1

/-- What the kernel leaves in the result's array: the adjusted row sums. -/
theorem arr_out (d : Dev nD) : (dat W₀ d).arrAt 1 cfg0.N = (adj W₀ d : Buf (Elt F) (aLoc d)) := by
  refine (dat W₀ d).arrAt_eq_of_cover 1 _ (fun t hf => ?_) fun i => ?_
  · have h4 := (flush0_1 t).mp hf
    funext y
    have h0 : ((y : S256.Idx) 0).val < 256 := ((y : S256.Idx) 0).isLt
    refine Eq.trans ?_ ((View.read_apply _ _).trans (cast_eq _ _)).symm
    show adjBlk (W₀ d main_arg0) (t.val / 5) (t.val % 5) _ = adjBlk (W₀ d main_arg0) ((((cfg0.win 1).blk t).view.emb y 0).val / 256) 4 (ix256 (((cfg0.win 1).blk t).view.emb y 0).val)
    rw [emb_blk1, h4]
    rw [show (256 * (t.val / 5) + ((y : S256.Idx) 0).val) / 256 = t.val / 5 by omega]
    refine congrArg _ (Shape.idx1_ext ?_)
    show ((y : S256.Idx) 0).val = (256 * (t.val / 5) + ((y : S256.Idx) 0).val) % 256
    omega
  · have hi : ((i : S4096.Idx) 0).val < 4096 := ((i : S4096.Idx) 0).isLt
    let t : Fin cfg0.N := ⟨5 * (((i : S4096.Idx) 0).val / 256) + 4, by rw [show cfg0.N = 80 from N_0]; omega⟩
    refine ⟨t, (flush0_1 t).mpr (by show (5 * (((i : S4096.Idx) 0).val / 256) + 4) % 5 = 4; omega), ?_⟩
    have e : ((cfg0.win 1).blk t).view.emb (ix256 ((i : S4096.Idx) 0).val) = i := Shape.idx1_ext (by
      refine (emb_blk1 t _).trans ?_
      show 256 * ((5 * (((i : S4096.Idx) 0).val / 256) + 4) / 5) + ((i : S4096.Idx) 0).val % 256 = _
      omega)
    rw [← e]; exact View.emb_mem_set _ _

/-! ## The region over the thread's state -/

theorem otc_none (d : Dev nD) (g : GSem nD τ sig) : (K (F := F)).Otc d 0 g (none : HIx 1) = 0 := by
  by_contra h
  have := SparseCore.Cfg.lev_of_Otc_pos (K := K (F := F)) (Nat.pos_of_ne_zero h)
  rw [SparseCore.Cfg.lev_none] at this
  omega

/-- What the TensorCore owes and has recorded before its first SparseCore call. -/
def tcOwes (d : Dev nD) : sProp 𝕄 :=
  iprop(∃ W, ⌜(K (F := F)).WBelow (SparseCore.T d) W 0⌝ ∗ owes (SparseCore.T d) ((K (F := F)).Otc d 0) W)

variable (W₁ : (d : Dev nD) → (b : Ref sig .tc) → Buf (Elt F) ((SparseCore.T d : Thread nD τ).loc b))

set_option backward.isDefEq.respectTransparency.types false in
/-- The pipeline, entered with the TensorCore's buffers at `W₀` and left with them at any `W₁` that has the adjusted row sums
    in the result's array and agrees with `W₀` off it. -/
def seg (hout : ∀ d, W₁ d main_v0 = (adj W₀ d : Buf (Elt F) (aLoc d))) (hne : ∀ d (b : Ref sig .tc), b ≠ main_v0 → W₁ d b = W₀ d b) :
    Pipeline.RegionSeg (pcfgs (F := F)) adm (pdats W₀) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation W₀ d).loose
  hwaits d := Pipeline.cellsWaits_intro _ _ _ _ _ fun _ _ _ => (K (F := F)).mayWait_none _ (otc_none d)
  pre d := iprop(unscopedBufs d (W₀ d) ∗ tcOwes d)
  post d := iprop(unscopedBufs d (W₁ d) ∗ tcOwes d)
  X _ := BI.emp
  Y _ := BI.emp
  Z d := Pipeline.unscopedRest (Ix := HIx 1) (Name := ℕ) (U := UU) (Lvl := ℕ) spec0 d (W₀ d)
  hentry d := by
    rw [Pipeline.ownSems0_none]
    have hsplit := Pipeline.arrays_of_unscopedBufs (p := 0) (pcfgs (F := F)) adm (pdats W₀) launch0.win launch0.arr_whole d
      ((pdats W₀ 0 d).share_full fun _ => rfl) (W₀ d) fun _ => rfl
    unfold tcOwes
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats W₀ 0 d).Φ 0 = Pipeline.scopedRest (Ix := HIx 1) (Name := ℕ) (U := UU) (Lvl := ℕ) (Val := Elt F) spec0 d from rfl]
    iintro ⟨-, -, Hr⟩; iexact Hr
  hout d := by
    rw [Pipeline.ownSems0_none, show (pdats W₀ 0 d).Φ (Fin.last _) = Pipeline.scopedRest (Ix := HIx 1) (Name := ℕ) (U := UU) (Lvl := ℕ) (Val := Elt F) spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch0.win launch0.arr_whole d
      (pdats W₀) ((pdats W₀ 0 d).share_full fun _ => rfl) (W₀ d) (W₁ d) ((pdats W₀ 0 d).arrAt · cfg0.N)
      (fun w => by
        fin_cases w
        · exact ((pdats W₀ 0 d).arrAt_in 0 rfl _).trans (hne d main_arg0 (by decide)).symm
        · exact (arr_out W₀ d).trans (hout d).symm)
      (fun b hb => hne d b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold tcOwes Pipeline.Dat.owesAt Pipeline.owesWithin
    icases HO with ⟨%W, %hW, HO⟩; iexists W
    isplitr
    · ipureintro
      intro p hp
      rcases hW (Finset.mem_coe.mpr hp) with h | ⟨w, s, h⟩
      · exact h
      · rw [h]; exact le_rfl
    iexact HO

end Region

end Cert.Proof.KI
-- ==== Proof.KI.Launch.lean ====
/-
  What the SparseCore call carries: the pieces of the four arrays each subcore takes and brings back, how the arrays split
  into those pieces and join again, and the launch's ghost state.
-/
module

public import proofs.«01_k».proof.Proof.KI.Tile
public import proofs.«01_k».proof.Proof.KI.Tc

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcores' places in the grid -/

/-- Subcore `s` of SparseCore `c` as a point of the call's grid. -/
def coordsV (c : Fin (grid1.bound 0)) (s : Fin (grid1.bound 1)) : grid1.Coords :=
  fun | 0 => c | 1 => s | ⟨_ + 2, h⟩ => absurd h (Nat.not_lt.2 (Nat.le_add_left _ _))

abbrev Wid : Type := Fin 2 × Fin 16
abbrev crd (p : Wid) : grid1.Coords := coordsV p.1 p.2

theorem wk_crd (p : Wid) : wk (crd p) = 2 * p.2.val + p.1.val := rfl

theorem wk_inj {p p' : Wid} (h : wk (crd p) = wk (crd p')) : p = p' := by
  have h1 : p.1.val < 2 := p.1.isLt
  have h2 : p'.1.val < 2 := p'.1.isLt
  rw [wk_crd, wk_crd] at h
  refine Prod.ext (Fin.ext ?_) (Fin.ext ?_) <;> omega

/-- The subcore whose number is `w`. -/
def wid (w : ℕ) : Wid := (⟨w % 2, Nat.mod_lt _ (by decide)⟩, ⟨w / 2 % 16, Nat.mod_lt _ (by decide)⟩)

theorem wk_wid (w : ℕ) (h : w < 32) : wk (crd (wid w)) = w := by
  rw [wk_crd]; show 2 * (w / 2 % 16) + w % 2 = w; omega

/-! ## The arrays' pieces -/

theorem row_of_mem_t (p : Wid) (n : S4096.Idx) (h : n ∈ tSet (crd p)) : (n 0).val / 128 = wk (crd p) := by
  obtain ⟨j, -, rfl⟩ := Finset.mem_map.mp h
  have hj : (j 0).val < 128 := (j 0).isLt
  have hw := wk_lt (crd p)
  rw [tK_emb]
  show (128 * wk (crd p) + (j 0).val) % 4096 / 128 = _
  omega

theorem row_of_mem_o (p : Wid) (n : S32x16.Idx) (h : n ∈ oSet (crd p)) : (n 0).val = wk (crd p) := by
  obtain ⟨j, -, rfl⟩ := Finset.mem_map.mp h
  exact (oK_emb (crd p) j).1

theorem t_disjoint : ∀ p ∈ (Finset.univ : Finset Wid), ∀ p' ∈ (Finset.univ : Finset Wid), p ≠ p' → Disjoint (tSet (crd p)) (tSet (crd p')) :=
  fun p _ p' _ h => Finset.disjoint_left.mpr fun n hn hn' => h (wk_inj ((row_of_mem_t p n hn).symm.trans (row_of_mem_t p' n hn')))
theorem o_disjoint : ∀ p ∈ (Finset.univ : Finset Wid), ∀ p' ∈ (Finset.univ : Finset Wid), p ≠ p' → Disjoint (oSet (crd p)) (oSet (crd p')) :=
  fun p _ p' _ h => Finset.disjoint_left.mpr fun n hn hn' => h (wk_inj ((row_of_mem_o p n hn).symm.trans (row_of_mem_o p' n hn')))

theorem t_cover : (Finset.univ : Finset Wid).biUnion (fun p => tSet (crd p)) = Finset.univ := by
  refine Finset.eq_univ_iff_forall.mpr fun n => ?_
  have hn : (n 0).val < 4096 := (n 0).isLt
  have hw : wk (crd (wid ((n 0).val / 128))) = (n 0).val / 128 := wk_wid _ (by omega)
  refine Finset.mem_biUnion.mpr ⟨wid ((n 0).val / 128), Finset.mem_univ _, ?_⟩
  refine Finset.mem_map.mpr ⟨(fun | 0 => ⟨(n 0).val % 128, Nat.mod_lt _ (by decide)⟩ : S128.Idx), Finset.mem_univ _, ?_⟩
  refine (tK_emb _ _).trans (funext fun | 0 => Fin.ext ?_)
  show (128 * wk (crd (wid ((n 0).val / 128))) + (n 0).val % 128) % 4096 = (n 0).val
  rw [hw]; omega

theorem o_cover : (Finset.univ : Finset Wid).biUnion (fun p => oSet (crd p)) = Finset.univ := by
  refine Finset.eq_univ_iff_forall.mpr fun n => ?_
  have hn : (n 0).val < 32 := (n 0).isLt
  have hw : wk (crd (wid (n 0).val)) = (n 0).val := wk_wid _ hn
  refine Finset.mem_biUnion.mpr ⟨wid (n 0).val, Finset.mem_univ _, ?_⟩
  have e := oK_emb (crd (wid (n 0).val)) (fun | 0 => n 1 : S16.Idx)
  refine Finset.mem_map.mpr ⟨(fun | 0 => n 1 : S16.Idx), Finset.mem_univ _, funext fun | 0 => Fin.ext ?_ | 1 => Fin.ext ?_⟩
  · exact e.1.trans hw
  · exact e.2

/-- The share of the flat table a subcore reads it with. -/
def xq (p : Wid) : PosShare TreeShare := ShareLeaves.leaf 4 (ShareLeaves.leaf 1 fullShare p.1) p.2

theorem t_pieces (d : Dev nD) (f : Buf (Elt F) (tLoc d)) :
    (tLoc d ↦{fullShare} f : sProp 𝕄) = bigSep Finset.univ fun p : Wid => tLoc d ↦[tSet (crd p)]{fullShare} f := by
  rw [← pointsTo_biUnion Finset.univ (ℓ := tLoc d) (fun p : Wid => tSet (crd p)) t_disjoint, t_cover]; try rfl
theorem a_pieces (d : Dev nD) (f : Buf (Elt F) (aLoc d)) :
    (aLoc d ↦{fullShare} f : sProp 𝕄) = bigSep Finset.univ fun p : Wid => aLoc d ↦[aSet (crd p)]{fullShare} f := by
  rw [← pointsTo_biUnion Finset.univ (ℓ := aLoc d) (fun p : Wid => aSet (crd p)) t_disjoint]
  rw [show (Finset.univ : Finset Wid).biUnion (fun p => aSet (crd p)) = Finset.univ from t_cover]; try rfl
theorem o_pieces (d : Dev nD) (f : Buf (Elt F) (oLoc d)) :
    (oLoc d ↦{fullShare} f : sProp 𝕄) = bigSep Finset.univ fun p : Wid => oLoc d ↦[oSet (crd p)]{fullShare} f := by
  rw [← pointsTo_biUnion Finset.univ (ℓ := oLoc d) (fun p : Wid => oSet (crd p)) o_disjoint, o_cover]; try rfl
theorem f_pieces (d : Dev nD) (f : Buf (Elt F) (fLoc d)) :
    (fLoc d ↦{fullShare} f : sProp 𝕄) = bigSep Finset.univ fun p : Wid => fLoc d ↦{xq p} f := by
  rw [bigSep_univ_prod]
  refine (ShareLeaves.pointsTo_leaves Finset.univ f 1 fullShare).trans ?_
  exact bigSep_congr fun c _ => ShareLeaves.pointsTo_leaves Finset.univ f 4 (ShareLeaves.leaf 1 fullShare c)

/-! ## What the call carries -/

section
variable [FloatOps F] [Named F]
variable (m : (ℓ : Loc nD τ sig) → Buf (Elt F) ℓ)

abbrev x' : DevRef τ sig := Proc.devRef .tc (main_arg0 : Ref sig .tc)
abbrev t' : DevRef τ sig := Proc.devRef .tc (main_arg1 : Ref sig .tc)
abbrev a' : DevRef τ sig := Proc.devRef .tc (main_v0 : Ref sig .tc)
abbrev f' : DevRef τ sig := Proc.devRef .tc (main_v1 : Ref sig .tc)
abbrev o' : DevRef τ sig := Proc.devRef .tc (main_v2 : Ref sig .tc)
abbrev z' : DevRef τ sig := Proc.devRef .tc (main_cst : Ref sig .tc)
abbrev r' : DevRef τ sig := Proc.devRef .tc (main_v3 : Ref sig .tc)

abbrev opFlat : HloOp τ sig (Elt F) := StableHlo.reshape main_arg0 main_v1 rfl shapeCasts_S4096x32000_S131072000

/-- The buffers at launch, after the row sums, and after the table is laid out flat. -/
def V0 (d : Dev nD) : Valuation τ sig (Elt F) := fun b => m (d, b)
def V1 (d : Dev nD) : Valuation τ sig (Elt F) := Function.update (V0 m d) a' (adjArr (F := F) (m (xLoc d)))
def V2 (d : Dev nD) : Valuation τ sig (Elt F) := (opFlat (F := F)).result (V1 m d)

/-- The targets, the adjusted row sums, the flat table, and the partial sums before and after the call. -/
abbrev Tg (d : Dev nD) : Buf (Elt F) (tLoc d) := m (tLoc d)
abbrev Ad (d : Dev nD) : Buf (Elt F) (aLoc d) := adjArr (F := F) (m (xLoc d))
abbrev Xf (d : Dev nD) : Buf (Elt F) (fLoc d) := V2 m d f'
abbrev O₀ (d : Dev nD) : Buf (Elt F) (oLoc d) := m (oLoc d)
abbrev O₁ (d : Dev nD) : Buf (Elt F) (oLoc d) := parts (F := F) (Tg m d) (Ad m d) (Xf m d)

/-- A subcore's pieces, its row of partial sums at `f`. -/
def piece (d : Dev nD) (p : Wid) (f : Buf (Elt F) (oLoc d)) : sProp 𝕄 :=
  iprop((tLoc d ↦[tSet (crd p)]{fullShare} Tg m d) ∗ (aLoc d ↦[aSet (crd p)]{fullShare} Ad m d) ∗ (fLoc d ↦{xq p} Xf m d)
    ∗ (oLoc d ↦[oSet (crd p)]{fullShare} f))

instance piece_storable (d : Dev nD) (p : Wid) (f : Buf (Elt F) (oLoc d)) : BI.Storable (upEmb : UEmb _ 𝕄) (piece m d p f) := by
  unfold piece; infer_instance

/-- The four arrays whole are the subcores' pieces. -/
theorem pieces_eq (d : Dev nD) (f : Buf (Elt F) (oLoc d)) :
    (iprop((tLoc d ↦{fullShare} Tg m d) ∗ (aLoc d ↦{fullShare} Ad m d) ∗ (fLoc d ↦{fullShare} Xf m d) ∗ (oLoc d ↦{fullShare} f)) : sProp 𝕄)
      = bigSep Finset.univ fun c : Fin 2 => bigSep Finset.univ fun i : Fin 16 => piece m d (c, i) f := by
  rw [← bigSep_univ_prod (fun p : Wid => piece m d p f)]
  unfold piece
  rw [bigSep_sep', bigSep_sep', bigSep_sep', t_pieces, a_pieces, f_pieces, o_pieces]

/-- Each SparseCore takes its sixteen subcores' pieces and brings them back with the partial sums written. -/
def P : (K (F := F)).Pay (nD := nD) (Val := Elt F) (Name := ℕ) (U := UU) where
  st := fun q d c => match q with | 0 => bigSep Finset.univ fun i : Fin 16 => piece m d (Fin.cast nCore_zero c, i) (O₀ m d)
  dn := fun q d c => match q with | 0 => bigSep Finset.univ fun i : Fin 16 => piece m d (Fin.cast nCore_zero c, i) (O₁ m d)
  go := fun q d c i => match q with | 0 => piece m d (Fin.cast nCore_zero c, Fin.cast nSub_zero i) (O₀ m d)
  td := fun q d c i => match q with | 0 => piece m d (Fin.cast nCore_zero c, Fin.cast nSub_zero i) (O₁ m d)
  x := fun _ _ => iprop(emp)

instance P_storable : (P (F := F) m).IsStorable where
  st q d c := match q with
    | 0 => (inferInstance : BI.Storable (upEmb : UEmb _ 𝕄) (bigSep Finset.univ fun i : Fin 16 => piece m d (Fin.cast nCore_zero c, i) (O₀ m d)))
  dn q d c := match q with
    | 0 => (inferInstance : BI.Storable (upEmb : UEmb _ 𝕄) (bigSep Finset.univ fun i : Fin 16 => piece m d (Fin.cast nCore_zero c, i) (O₁ m d)))
  go q d c i := match q with
    | 0 => (inferInstance : BI.Storable (upEmb : UEmb _ 𝕄) (piece m d (Fin.cast nCore_zero c, Fin.cast nSub_zero i) (O₀ m d)))
  td q d c i := match q with
    | 0 => (inferInstance : BI.Storable (upEmb : UEmb _ 𝕄) (piece m d (Fin.cast nCore_zero c, Fin.cast nSub_zero i) (O₁ m d)))

theorem vecSplit : (K (F := F)).VecSplit' (P m) 0 := by
  intro d c
  show (bigSep Finset.univ fun i : Fin 16 => piece m d (Fin.cast nCore_zero c, i) (O₀ m d)) ⊢ |={Set.univ}=> iprop(
      (bigSep Finset.univ fun i : Fin 16 => piece m d (Fin.cast nCore_zero c, i) (O₀ m d))
      ∗ ((bigSep Finset.univ fun i : Fin 16 => piece m d (Fin.cast nCore_zero c, i) (O₁ m d))
          -∗ (bigSep Finset.univ fun i : Fin 16 => piece m d (Fin.cast nCore_zero c, i) (O₁ m d))))
  iintro H; imodintro
  isplitl [H]; · iexact H
  iintro H; iexact H

/-! ## The task's obligation -/

/-- What the proof asks of the launch memory: every target is a column of the table. -/
def PreOK : Prop := ∀ (d : Dev nD) (j : S4096.Idx), (m (tLoc d) j).toNat < 32000

theorem defs₀_vector (c : Fin τ.nSC) (s : Fin τ.nSub) :
    defs₀ (F := F) (.scVector c s) 1 ()
      = SparseCore.onTile hcore1 hsub1 (fun c s => cc1__sc_partials (coordsV c s)
          (Memref.whole main_v1_scv) (Memref.isWhole_whole _) (Memref.whole main_arg1_scv) (Memref.isWhole_whole _)
          (Memref.whole main_v0_scv) (Memref.isWhole_whole _) (Memref.whole main_v2_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) cc1_scratch5 cc1_scoped0 cc1_scoped1 cc1_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every subcore meets what the call's protocol asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Tg m d) (Ad m d) (Xf m d) (O₀ m d) (xq (Fin.cast nCore_zero c, Fin.cast nSub_zero i))
    hF (hpre d) O W hO).trans (wp_mono frame _ _ fun _ => obl_post)

/-! ## The launch's ghost state -/

/-- The handshakes' rounds and the pipeline's at their first round; no transfer counted. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

instance EP_lands : (EP : Emb UP 𝕄).LandsIn (upEmb : UEmb _ 𝕄) := by unfold EP; infer_instance

/-- A TensorCore's part of the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    ihave Hc := (Entails.of_eq (bigSep_congr fun _ _ => bigSep_univ_of_subsingleton (0 : Fin 1))) $$ Hc
    ihave Ht := (Entails.of_eq (bigSep_congr fun _ _ => bigSep_univ_of_subsingleton (0 : Fin 1))) $$ Ht
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

end

end Cert.Proof.KI
-- ==== Proof.KI.Run.lean ====
/-
  The program's run: on each TensorCore the row sums, the flat table, the SparseCore call and the final sum, and what they leave.
-/
module

public import proofs.«01_k».proof.Proof.KI.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

section
variable [FloatOps F] [Named F]
variable (m : (ℓ : Loc nD τ sig) → Buf (Elt F) ℓ) (ρ : Dev nD → PrngReg)

/-! ## The TensorCore's arrays -/

abbrev opZero : HloOp τ sig (Elt F) := StableHlo.nullary main_cst (constant S_ .f32 0x00000000#32)
abbrev opSum : HloOp τ sig (Elt F) := StableHlo.binary main_v2 main_cst main_v3
  ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))

abbrev rLoc (d : Dev nD) : Loc nD τ sig := (SparseCore.T d).loc main_v3

/-- The arrays, all unscoped. -/
abbrev S7 : Finset (DevRef τ sig) := {x', t', a', f', o', z', r'}

omit [FloatOps F] [Named F] in
theorem held_S7 (d : Dev nD) (W : Valuation τ sig (Elt F)) :
    (held (SparseCore.T d) S7 W : sProp 𝕄)
      = iprop((xLoc d ↦{fullShare} W x') ∗ (tLoc d ↦{fullShare} W t') ∗ (aLoc d ↦{fullShare} W a') ∗ (fLoc d ↦{fullShare} W f')
          ∗ (oLoc d ↦{fullShare} W o') ∗ ((SparseCore.T d).loc main_cst ↦{fullShare} W z') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [Named F] in
theorem unscoped_held (d : Dev nD) (W : Valuation τ sig (Elt F)) :
    (unscopedBufs d (fun b => W (Proc.devRef .tc b)) : sProp 𝕄) = held (SparseCore.T d) S7 W := by
  rw [held_S7]
  unfold unscopedBufs
  rw [show (Finset.univ.filter fun b : Ref sig .tc => ¬ b.isScoped) = {main_arg0, main_arg1, main_v0, main_v1, main_v2, main_cst, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The buffers after the SparseCore call, and at the end. -/
def V3 (d : Dev nD) : Valuation τ sig (Elt F) := Function.update (V2 m d) o' (O₁ m d)
def V5 (d : Dev nD) : Valuation τ sig (Elt F) := (opSum (F := F)).result ((opZero (F := F)).result (V3 m d))

/-- The program's result: the sum of the partial sums. -/
def out (d : Dev nD) : Buf (Elt F) (rLoc d) :=
  (Host.reduceAdd (O₁ m d : FVec F S32x16 .f32) (constant S_ .f32 0x00000000#32) reducesTo_S32x16_S_d0_1 h_S_ : FVec F S_ .f32)

theorem V1_ne (d : Dev nD) (b : DevRef τ sig) (h : b ≠ a') : V1 m d b = m (d, b) := Function.update_of_ne h _ _
theorem V1_a (d : Dev nD) : V1 m d a' = Ad m d := Function.update_self _ _ _
theorem V2_ne (d : Dev nD) (b : DevRef τ sig) (h : b ≠ f') : V2 m d b = V1 m d b :=
  (opFlat (F := F)).result_of_not_mem _ (show b ∉ ({f'} : Finset (DevRef τ sig)) from fun e => h (Finset.mem_singleton.mp e))
theorem V2_x (d : Dev nD) : V2 m d x' = m (xLoc d) := (V2_ne m d x' (by decide)).trans (V1_ne m d x' (by decide))
theorem V2_t (d : Dev nD) : V2 m d t' = Tg m d := (V2_ne m d t' (by decide)).trans (V1_ne m d t' (by decide))
theorem V2_a (d : Dev nD) : V2 m d a' = Ad m d := (V2_ne m d a' (by decide)).trans (V1_a m d)
theorem V2_o (d : Dev nD) : V2 m d o' = O₀ m d := (V2_ne m d o' (by decide)).trans (V1_ne m d o' (by decide))
theorem V3_ne (d : Dev nD) (b : DevRef τ sig) (h : b ≠ o') : V3 m d b = V2 m d b := Function.update_of_ne h _ _
theorem V3_o (d : Dev nD) : V3 m d o' = O₁ m d := Function.update_self _ _ _
theorem V5_ne (d : Dev nD) (b : DevRef τ sig) (h : b ≠ z') (h' : b ≠ r') : V5 m d b = V3 m d b :=
  ((opSum (F := F)).result_of_not_mem _ (show b ∉ ({r'} : Finset (DevRef τ sig)) from fun e => h' (Finset.mem_singleton.mp e))).trans
    ((opZero (F := F)).result_of_not_mem _ (show b ∉ ({z'} : Finset (DevRef τ sig)) from fun e => h (Finset.mem_singleton.mp e)))
theorem V5_x (d : Dev nD) : V5 m d x' = m (xLoc d) :=
  (V5_ne m d x' (by decide) (by decide)).trans ((V3_ne m d x' (by decide)).trans (V2_x m d))
theorem V5_t (d : Dev nD) : V5 m d t' = m (tLoc d) :=
  (V5_ne m d t' (by decide) (by decide)).trans ((V3_ne m d t' (by decide)).trans (V2_t m d))
theorem V5_r (d : Dev nD) : V5 m d r' = out m d := by
  unfold V5
  refine (StableHlo.binary_result _ _ _ _ _ _ _ _).trans ?_
  rw [(opZero (F := F)).result_of_not_mem (V3 m d) (b := o') (show o' ∉ ({z'} : Finset (DevRef τ sig)) by decide), V3_o,
    show (opZero (F := F)).result (V3 m d) z' = (constant S_ .f32 0x00000000#32 : FVec F S_ .f32) from StableHlo.nullary_result _ _ _ _]
  rfl

theorem hFlat : (opFlat (F := F)).bufs ⊆ S7 := show ({x', f'} : Finset (DevRef τ sig)) ⊆ S7 by decide
theorem hZero : (opZero (F := F)).bufs ⊆ S7 := show ({z'} : Finset (DevRef τ sig)) ⊆ S7 by decide
theorem hSum : (opSum (F := F)).bufs ⊆ S7 := show ({o', z', r'} : Finset (DevRef τ sig)) ⊆ S7 by decide

/-- The arrays at the launch hold the launch memory. -/
theorem launch_held (d : Dev nD) : (unscopedBufs d (fun b => m ((SparseCore.T d).loc b)) : sProp 𝕄) = held (SparseCore.T d) S7 (V0 m d) :=
  unscoped_held d (V0 m d)

/-! ## The row sums -/

/-- The row sums' pipeline on device `d`: from the arrays at the launch memory to the arrays with the adjusted row sums. -/
theorem region_wp [∀ e, Nonempty (Elt F e)] (d : Dev nD) (Q : PUnit → sProp 𝕄) :
    iprop((iprop(boundary (SparseCore.T d) ∗ held (SparseCore.T d) S7 (V1 m d) ∗ tcOwes d) -∗ Q ⟨⟩)
        ∗ boundary (SparseCore.T d) ∗ held (SparseCore.T d) S7 (V0 m d) ∗ tcOwes d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have hl : (Prog.lift (.customCall (SparseCore.inner (Pipeline.entry 0)) ()) :
      Prog (TpuEff nD τ sig (Elt F) (SparseCore.Sig (Pipeline.Sig Λ₀ (Fin 1) fun p => (pcfgs (F := F) p).Adm) 1) .tc) PUnit)
      = SparseCore.liftProg (Prog.lift (.customCall (Pipeline.entry 0) ())) := rfl
  rw [hl]
  have hW := Pipeline.RegionSeg.wp (pcfgs (F := F)) adm (pdats fun d b => V0 m d (Proc.devRef .tc b)) (none : HIx 1) cellOf_inj EP defs₀ 𝒱₀
    (K (F := F)).L (K (F := F)).lev
    (seg (fun d b => V0 m d (Proc.devRef .tc b)) (fun d b => V1 m d (Proc.devRef .tc b))
      (fun d => V1_a m d) (fun d b hb => V1_ne m d _ (StableHlo.devRef_ne_of_ne hb)))
    d none (fun _ h => nomatch h) (fun x => .ret x) Q
  unfold G
  iintro ⟨HQ, Hb, Hh, HO, Hl, Hc, Ht⟩
  iapply ((K (F := F)).wp_liftProg (D (F := F)) 𝒱 (SparseCore.T d) Set.univ none _ Q)
  iapply hW
  dsimp only [seg]
  isplitl [HQ]
  · iintro ⟨Hb, Hu, HO⟩
    rw [wp_ret]
    imodintro
    iapply HQ
    isplitl [Hb]; · iexact Hb
    isplitl [Hu]
    · iapply (Entails.of_eq (unscoped_held d (V1 m d))); iexact Hu
    iexact HO
  isplitl [Hb]; · iexact Hb
  isplitl [Hh HO]
  · isplitl [Hh]
    · iapply (Entails.of_eq (unscoped_held d (V0 m d)).symm); iexact Hh
    iexact HO
  isplitl [Hl]; · iexact Hl
  isplitl [Hc]; · iexact Hc
  iexact Ht

/-! ## @main -/

/-- The TensorCore's part of the call's protocol but for what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(tcOwes d ∗ tcRest d) := by
  have h0 : 8 * SparseCore.Cfg.Blocks.fst 1 1 0 = 0 := by unfold SparseCore.Cfg.Blocks.fst; rfl
  unfold SparseCore.Cfg.tcSt tcOwes tcRest
  rw [h0]

theorem st0_eq (d : Dev nD) : (bigSep Finset.univ fun c : Fin ((K (F := F)).nCore 0) => (P m).st 0 d c)
    = iprop((tLoc d ↦{fullShare} Tg m d) ∗ (aLoc d ↦{fullShare} Ad m d) ∗ (fLoc d ↦{fullShare} Xf m d) ∗ (oLoc d ↦{fullShare} O₀ m d)) :=
  (pieces_eq m d (O₀ m d)).symm
theorem dn0_eq (d : Dev nD) : (bigSep Finset.univ fun c : Fin ((K (F := F)).nCore 0) => (P m).dn 0 d c)
    = iprop((tLoc d ↦{fullShare} Tg m d) ∗ (aLoc d ↦{fullShare} Ad m d) ∗ (fLoc d ↦{fullShare} Xf m d) ∗ (oLoc d ↦{fullShare} O₁ m d)) :=
  (pieces_eq m d (O₁ m d)).symm

/-- The arrays before the call, and after the sum. -/
theorem held_V2 (d : Dev nD) :
    (held (SparseCore.T d) S7 ((opFlat (F := F)).result (V1 m d)) : sProp 𝕄)
      = iprop((xLoc d ↦{fullShare} m (xLoc d)) ∗ (tLoc d ↦{fullShare} Tg m d) ∗ (aLoc d ↦{fullShare} Ad m d) ∗ (fLoc d ↦{fullShare} Xf m d)
          ∗ (oLoc d ↦{fullShare} O₀ m d) ∗ ((SparseCore.T d).loc main_cst ↦{fullShare} V2 m d z') ∗ rLoc d ↦{fullShare} V2 m d r') := by
  show held (SparseCore.T d) S7 (V2 m d) = _
  rw [held_S7, V2_x, V2_t, V2_a, V2_o]
theorem held_V3 (d : Dev nD) :
    (held (SparseCore.T d) S7 (V3 m d) : sProp 𝕄)
      = iprop((xLoc d ↦{fullShare} m (xLoc d)) ∗ (tLoc d ↦{fullShare} Tg m d) ∗ (aLoc d ↦{fullShare} Ad m d) ∗ (fLoc d ↦{fullShare} Xf m d)
          ∗ (oLoc d ↦{fullShare} O₁ m d) ∗ ((SparseCore.T d).loc main_cst ↦{fullShare} V2 m d z') ∗ rLoc d ↦{fullShare} V2 m d r') := by
  rw [held_S7, V3_o, V3_ne m d x' (by decide), V3_ne m d t' (by decide), V3_ne m d a' (by decide), V3_ne m d f' (by decide),
    V3_ne m d z' (by decide), V3_ne m d r' (by decide), V2_x, V2_t, V2_a]
theorem held_V5 (d : Dev nD) :
    (held (SparseCore.T d) S7 ((opSum (F := F)).result ((opZero (F := F)).result (V3 m d))) : sProp 𝕄)
      = iprop((xLoc d ↦{fullShare} m (xLoc d)) ∗ (tLoc d ↦{fullShare} m (tLoc d)) ∗ (aLoc d ↦{fullShare} V5 m d a') ∗ (fLoc d ↦{fullShare} V5 m d f')
          ∗ (oLoc d ↦{fullShare} V5 m d o') ∗ ((SparseCore.T d).loc main_cst ↦{fullShare} V5 m d z') ∗ rLoc d ↦{fullShare} out m d) := by
  show held (SparseCore.T d) S7 (V5 m d) = _
  rw [held_S7, V5_x, V5_t, V5_r]

/-- What @main leaves the claims: the arguments at their launch contents, the result. -/
abbrev FIN (d : Dev nD) : sProp 𝕄 :=
  iprop((xLoc d ↦{fullShare} m (xLoc d)) ∗ (tLoc d ↦{fullShare} m (tLoc d)) ∗ rLoc d ↦{fullShare} out m d)

/-- @main on device `d`'s TensorCore: the row sums, the flat table, the SparseCore call, the sum. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, HG⟩
  ihave Hst := (Entails.of_eq (tcSt_zero d)) $$ Hst
  icases Hst with ⟨HO, Hst⟩
  iapply (region_wp m d _)
  isplitr [Hb Hheld HO HG]
  rotate_left
  · isplitl [Hb]; · iexact Hb
    isplitl [Hheld]; · iexact Hheld
    isplitl [HO]; · iexact HO
    isplitr; · iapply ((K (F := F)).ctx_levAts κ); iexact Hctx
    iexact HG
  iintro ⟨Hb, Hheld, HO⟩
  -- the flat table
  iapply (wp_hlo_within 𝒱 (SparseCore.T d) none Set.univ (op := opFlat) (S := S7) hFlat (V := V1 m d)) $$ [Hb Hheld]
  · isplitl [Hb] <;> iassumption
  iintro ⟨Hb, Hheld⟩
  rw [wp_ret]; imodintro
  -- the call
  ihave Hh := (Entails.of_eq (held_V2 (F := F) m d)) $$ Hheld
  icases Hh with ⟨Hx, Ht, Ha, Hf, Ho, Hz, Hr⟩
  iapply ((K (F := F)).wp_run (D (F := F)) 𝒱 (EH := EH) (P := P m) κ d 0) $$ [Hst HO Hb Hx Ht Ha Hf Ho Hz Hr Hts]
  isplitr; · iexact Hctx
  isplitl [Hst HO]
  · iapply (Entails.of_eq (tcSt_zero d).symm)
    isplitl [HO]; · iexact HO
    iexact Hst
  isplitl [Ht Ha Hf Ho]
  · rw [st0_eq]
    isplitl [Ht]; · iexact Ht
    isplitl [Ha]; · iexact Ha
    isplitl [Hf]; · iexact Hf
    iexact Ho
  iintro ⟨Hst, Hdn⟩
  ihave Hdn' := (Entails.of_eq (dn0_eq m d)) $$ Hdn
  icases Hdn' with ⟨Ht, Ha, Hf, Ho⟩
  -- the sum
  iapply (wp_hlo_within 𝒱 (SparseCore.T d) none Set.univ (op := opZero) (S := S7) hZero (V := V3 m d)) $$ [Hb Hx Ht Ha Hf Ho Hz Hr]
  · isplitl [Hb]; · iexact Hb
    rw [held_V3]
    isplitl [Hx]; · iexact Hx
    isplitl [Ht]; · iexact Ht
    isplitl [Ha]; · iexact Ha
    isplitl [Hf]; · iexact Hf
    isplitl [Ho]; · iexact Ho
    isplitl [Hz]; · iexact Hz
    iexact Hr
  iintro ⟨Hb, Hheld⟩
  rw [wp_ret]; imodintro
  iapply (wp_hlo_within 𝒱 (SparseCore.T d) none Set.univ (op := opSum) (S := S7) hSum (V := (opZero (F := F)).result (V3 m d))) $$ [Hb Hheld]
  · isplitl [Hb] <;> iassumption
  iintro ⟨Hb, Hheld⟩
  ihave Hh := (Entails.of_eq (held_V5 (F := F) m d)) $$ Hheld
  icases Hh with ⟨Hx, Ht, -, -, -, -, Hr⟩
  rw [wp_ret]; imodintro; imodintro
  isplitl [Hst]; · iexact Hst
  isplitr [Hb Hts]
  · isplitl [Hx]; · iexact Hx
    isplitl [Ht]; · iexact Ht
    iexact Hr
  isplitl [Hb] <;> iassumption

/-! ## The final state -/

/-- What the claims read of device `d`'s final state. -/
def fq (d : Dev nD) (s' : Phys nD τ sig (Elt F)) : Prop :=
  s'.mem.mem (rLoc d) = out m d ∧ s'.mem.mem (xLoc d) = m (xLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => hx i (Finset.mem_univ i), funext fun i => ht i (Finset.mem_univ i)⟩

/-- The state every run ends in. -/
def QC : PUnit × MemSt nD τ sig (Elt F) → Prop := fun r =>
  (∀ d : Dev nD, r.2.mem (rLoc d) = out m d ∧ r.2.mem (xLoc d) = m (xLoc d) ∧ r.2.mem (tLoc d) = m (tLoc d)) ∧ r.2.sem = fun _ => 0

/-- The program's run from a launch memory whose targets are columns of the table: the result is `out`, the arguments and the
    semaphores are as they were. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end

end Cert.Proof.KI
-- ==== Proof.Pre.lean ====
/-
  What the preconditions say of the arrays: every target is a column of the table, and, of the second, over the extended reals
  every entry of the table is a real number.
-/
module

public import proofs.«01_k».proof.Defs
public import proofs.«01_k».proof.Proof.Gen.Pre_in_range
public import proofs.«01_k».proof.Proof.Gen.Pre_in_vocab
public import Idealize.ShloMosaic.Lib.ReduceAll
public import Idealize.ShloMosaic.Lib.IdealHost

@[expose] public section

noncomputable section

namespace Cert.Proof.Pre

open Idealize.ShloMosaic

abbrev S_ : Shape := ⟨0, ![]⟩
abbrev S4096 : Shape := ⟨1, ![4096]⟩
abbrev S4096x32000 : Shape := ⟨2, ![4096, 32000]⟩

instance : Subsingleton S_.Idx := ⟨fun a b => funext fun d => d.elim0⟩

/-- A word that is at least 0 and below 32000, both compared signed, is a column. -/
theorem word_lt (w : BitVec 32) (e : IntOp.andi (IntOp.cmpi .sge w 0#32) (IntOp.cmpi .slt w 32000#32) = 1#1) : w.toNat < 32000 := by
  obtain ⟨e1, e2⟩ := IntOp.andi_eq_one.1 e
  have e1 : (0#32).sle w = true := by
    revert e1; show BitVec.ofBool ((0#32).sle w) = 1#1 → _; cases (0#32).sle w <;> simp
  have e2 : w.slt 32000#32 = true := by
    revert e2; show BitVec.ofBool (w.slt 32000#32) = 1#1 → _; cases w.slt 32000#32 <;> simp
  simp only [BitVec.sle_eq_decide, BitVec.slt_eq_decide, decide_eq_true_eq, BitVec.toInt_eq_toNat_cond, BitVec.toNat_ofNat, Nat.reducePow,
    Nat.reduceMod] at e1 e2
  omega

section
variable {F : FTy → Type} [FloatOps F] (x : FVec F S4096x32000 .f32) (t : IVec S4096 32)

/-- The precondition on the targets: every target is a column of the table. -/
theorem vocab_lt (h : Cert.Pre_in_vocab.fn x t = fun _ => 1#1) (i : S4096.Idx) : (t i).toNat < 32000 :=
  word_lt _ (Host.reduce_andi_all _ _ _ _ _ (congrFun h ValueIdx.ix0) i)

/-- The precondition on both arrays at its one index: both of its reductions by `and` are 1. -/
theorem both (h : Cert.Pre_in_range.fn x t = fun _ => 1#1) :
    (∀ i : S4096.Idx, IntOp.andi (IntOp.cmpi .sge (t i) 0#32) (IntOp.cmpi .slt (t i) 32000#32) = 1#1)
      ∧ ∀ i : S4096x32000.Idx, FloatOps.cmpf .olt (FloatOps.hostAbsf (x i)) (Scalar.ofBits .f32 0x7F800000#32 : F .f32) = 1#1 := by
  have h0 := congrFun h ValueIdx.ix0
  obtain ⟨h1, h2⟩ := IntOp.andi_eq_one.1 h0
  exact ⟨fun i => Host.reduce_andi_all _ _ _ _ _ h1 i, fun i => Host.reduce_andi_all _ _ _ _ _ h2 i⟩

/-- The precondition on both arrays: every target is a column of the table. -/
theorem range_lt (h : Cert.Pre_in_range.fn x t = fun _ => 1#1) (i : S4096.Idx) : (t i).toNat < 32000 := word_lt _ ((both x t h).1 i)

end

/-- An extended real of absolute value below infinity is a real number. -/
theorem real_of_abs_lt (y : EReal) (e : max y (-y) < ⊤) : ∃ r : ℝ, y = (r : EReal) := by
  induction y with
  | bot => simp at e
  | top => simp at e
  | coe r => exact ⟨r, rfl⟩

/-- The precondition on both arrays over the extended reals: every entry of the table is a real number. -/
theorem entry_real (x : FVec Ideal S4096x32000 .f32) (t : IVec S4096 32) (h : Cert.Pre_in_range.fn x t = fun _ => 1#1)
    (i : S4096x32000.Idx) : ∃ r : ℝ, x i = (r : EReal) := by
  have e := (both x t h).2 i
  have e : Ideal.cmp .olt (max (x i) (-(x i))) (Ideal.ofBits .f32 0x7F800000#32) = 1#1 := e
  have hinf : Ideal.ofBits .f32 0x7F800000#32 = ⊤ := by simp [Ideal.ofBits, Ideal.ieee]
  rw [hinf] at e
  have e : max (x i) (-(x i)) < ⊤ := by
    by_contra hn
    simp [Ideal.cmp, hn] at e
  exact real_of_abs_lt (x i) e

end Cert.Proof.Pre

end
-- ==== Proof.Frames.lean ====
/-
  The claims that state no value: the kernel, its idealization and the reference run, leave their arguments as they were and every
  semaphore at zero; and the three named constants are the ones the idealization names.
-/
module

public import proofs.«01_k».proof.Proof.K.Run
public import proofs.«01_k».proof.Proof.KI.Run
public import proofs.«01_k».proof.Proof.Gen.ReferenceIdeal.Run
public import proofs.«01_k».proof.Proof.Pre
public import Idealize.ShloMosaic.Lib.Quiescent

@[expose] public section

noncomputable section

namespace Cert.Proof

open Idealize.ShloMosaic Idealize.SL.Sem

/-- The kernel's launch memory satisfies what its run asks: every target is a column of the table. -/
theorem kernel_ok (m : (ℓ : Loc Cert.Kernel.nD Cert.Kernel.τ Cert.Kernel.sig) → Buf (Elt Bits) ℓ) (h : Cert.Pre_Kernel m) : K.PreOK m :=
  fun d j => Pre.vocab_lt _ _ (h d) j

/-- The idealized kernel's launch memory satisfies what its run asks. -/
theorem ideal_ok (m : (ℓ : Loc Cert.KernelIdeal.nD Cert.KernelIdeal.τ Cert.KernelIdeal.sig) → Buf (Elt Ideal) ℓ) (h : Cert.Pre_KernelIdeal m) :
    KI.PreOK m :=
  fun d j => Pre.vocab_lt _ _ (h d) j

/-- The same of the precondition on both arrays. -/
theorem ideal_ok_range (m : (ℓ : Loc Cert.KernelIdeal.nD Cert.KernelIdeal.τ Cert.KernelIdeal.sig) → Buf (Elt Ideal) ℓ)
    (h : Cert.Pre_KernelIdeal_in_range m) : KI.PreOK m :=
  fun d j => Pre.range_lt _ _ (h d) j

/-- The kernel's frame. -/
theorem frame_Kernel : Cert.quiescent_Kernel := fun m ρ hpre =>
  (θ_run Cert.Kernel.defs _ _).mono (fun _ h => ⟨fun c => (h.1 c).2, h.2⟩) (K.run_main (F := Bits) m ρ (kernel_ok m hpre))

/-- The idealized kernel's frame. -/
theorem frame_KernelIdeal : Cert.quiescent_KernelIdeal := fun m ρ hpre =>
  (θ_run Cert.KernelIdeal.defs _ _).mono (fun _ h => ⟨fun c => (h.1 c).2, h.2⟩) (KI.run_main (F := Ideal) m ρ (ideal_ok m hpre))

/-- The idealized kernel's frame under the precondition on both arrays. -/
theorem frame_KernelIdeal_range : Cert.quiescent_KernelIdeal_pre_in_range := fun m ρ hpre =>
  (θ_run Cert.KernelIdeal.defs _ _).mono (fun _ h => ⟨fun c => (h.1 c).2, h.2⟩) (KI.run_main (F := Ideal) m ρ (ideal_ok_range m hpre))

/-- The reference's frame. -/
theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The reference's frame under the precondition on both arrays. -/
theorem frame_ReferenceIdeal_pre : Cert.quiescent_ReferenceIdeal_pre_in_range := fun m ρ _ => frame_ReferenceIdeal m ρ trivial

/-- The three constants the idealization names. -/
theorem preserves : Cert.preserves_Kernel_KernelIdeal :=
  ⟨IdealRules.named_const.statement Cert.KernelIdeal.κ "eps" .f32 0x3651BA72#32 ((1 / 319980 : ℝ) : EReal) rfl,
    IdealRules.named_const.statement Cert.KernelIdeal.κ "entropy" .f32 0xBFAE63F8#32
      (((1 / 10) * (Real.log (129140163 / 106660000000000)) : ℝ) : EReal) rfl,
    IdealRules.named_const.statement Cert.KernelIdeal.κ "conf_minus_eps" .f32 0x3F666632#32 ((287981 / 319980 : ℝ) : EReal) rfl⟩

end Cert.Proof

end
-- ==== Proof.Scatter.lean ====
/-
  The reference's two scatters read at an entry: one entry set in every row, at a pair of index words per row, and one column set.
-/
module

public import Idealize.ShloMosaic.Lib.Routing.OpsOne
public import Idealize.ShloMosaic.Lib.Routing.OpsPair

@[expose] public section

noncomputable section

namespace Cert.Proof.Scatter

open Idealize.ShloMosaic Idealize.ShloMosaic.Routing Idealize.ShloMosaic.ValueIdx

/-- Update `a` of a scatter of `N` scalars into a matrix, a pair of index words each, lands at (`r`, `c`) exactly when the two words, read
    signed, are `r` and `c`. -/
theorem pair_lands {R C N : Nat} (d : ScatterDims (shape2 R C) (shape2 N 2) (shape1 N)) (hiw : d.insertedWindowDims = [0, 1])
    (hsd : d.scatterDimsToOperandDims = [0, 1]) (hivd : d.indexVectorDim = 1) (idx : IVec (shape2 N 2) 32) (a : Fin N) (r : Fin R) (c : Fin C) :
    d.resultIdx? (ix1 a) idx = some (ix2 r c) ↔ (idx (ix2 a 0)).toInt = r.val ∧ (idx (ix2 a 1)).toInt = c.val := by
  have mem (q : Fin 2) : q ∈ d.scatterDimsToOperandDims := by rw [hsd]; fin_cases q <;> simp
  have win (q : Fin 2) : d.window (ix1 a) q = 0 := by
    unfold ScatterDims.window
    have inserted : q ∈ d.insertedWindowDims := by rw [hiw]; fin_cases q <;> simp
    rw [dif_neg]
    intro h
    exact absurd inserted (of_decide_eq_true (List.mem_filter.1 h).2)
  have place (q : Fin 2) : d.siIdx (ix1 a) ⟨d.scatterDimsToOperandDims.idxOf q, List.idxOf_lt_length_iff.2 (mem q)⟩ = ix2 a q := by
    funext b
    apply Fin.ext
    unfold ScatterDims.siIdx
    match b with
    | ⟨0, _⟩ =>
      rw [dif_neg (by rw [hivd]; exact (by decide : (0 : ℕ) ≠ 1))]
      unfold ScatterDims.siCoord
      exact congrArg (fun t => ((ix1 a : (shape1 N).Idx) t).val) (Subsingleton.elim (α := Fin 1) _ 0)
    | ⟨1, _⟩ =>
      rw [dif_pos (by rw [hivd])]
      show List.idxOf q d.scatterDimsToOperandDims = q.val
      rw [hsd]; fin_cases q <;> rfl
  have start (q : Fin 2) : d.start (ix1 a) idx q = (idx (ix2 a q)).toInt := by
    unfold ScatterDims.start
    rw [dif_pos (mem q), place]
  rw [resultIdx?_ix2, start, start, win, win]
  omega

/-- A scatter that sets entry (`n`, `p n`) of every row `n`, read at (`r`, `c`): the row's update where `c` is `p r`, the operand's entry
    elsewhere. -/
theorem set_rows {α : Type} {R C : Nat} (d : ScatterDims (shape2 R C) (shape2 R 2) (shape1 R)) (hiw : d.insertedWindowDims = [0, 1])
    (hsd : d.scatterDimsToOperandDims = [0, 1]) (hivd : d.indexVectorDim = 1) (x : (shape2 R C).Idx → α) (idx : IVec (shape2 R 2) 32)
    (upd : (shape1 R).Idx → α) (p : Fin R → Nat) (h0 : ∀ n : Fin R, (idx (ix2 n 0)).toInt = n.val) (h1 : ∀ n : Fin R, (idx (ix2 n 1)).toInt = p n)
    (r : Fin R) (c : Fin C) :
    Host.scatter d (fun _ b => b) x idx upd (ix2 r c) = if c.val = p r then upd (ix1 r) else x (ix2 r c) := by
  have lands (k : (shape1 R).Idx) (hk : d.resultIdx? k idx = some (ix2 r c)) : k = ix1 r ∧ c.val = p r := by
    obtain ⟨n, rfl⟩ : ∃ n : Fin R, k = ix1 n := ⟨k 0, eq_ix1 k⟩
    have h := (pair_lands d hiw hsd hivd idx n r c).1 hk
    rw [h0, h1] at h
    have e : n = r := Fin.ext (by omega)
    subst e
    exact ⟨rfl, by omega⟩
  by_cases h : c.val = p r
  · rw [if_pos h]
    exact scatter_set_hit d x idx upd _ _ (fun k hk => by rw [(lands k hk).1]) (ix1 r)
      ((pair_lands d hiw hsd hivd idx r r c).2 ⟨h0 r, by rw [h1, h]⟩)
  · rw [if_neg h]
    exact scatter_set_miss d x idx upd _ fun k hk => h (lands k hk).2

/-- A scatter that sets column `q`, read at (`r`, `c`): the column's update where `c` is `q`, the operand's entry elsewhere. -/
theorem set_col {α : Type} {R C : Nat} (d : ScatterDims (shape2 R C) (shape1 1) (shape1 R)) (hiw : d.insertedWindowDims = [1])
    (hsd : d.scatterDimsToOperandDims = [1]) (x : (shape2 R C).Idx → α) (idx : IVec (shape1 1) 32) (upd : (shape1 R).Idx → α) (q : Fin C)
    (hq : (idx (ix1 0)).toInt = q.val) (r : Fin R) (c : Fin C) :
    Host.scatter d (fun _ b => b) x idx upd (ix2 r c) = if c = q then upd (ix1 r) else x (ix2 r c) := by
  have lands (k : (shape1 R).Idx) (hk : d.resultIdx? k idx = some (ix2 r c)) : k = ix1 r ∧ c = q := by
    obtain ⟨n, rfl⟩ : ∃ n : Fin R, k = ix1 n := ⟨k 0, eq_ix1 k⟩
    have h := (lands_col d hiw hsd idx q hq n r c).1 hk
    exact ⟨by rw [h.1], h.2⟩
  by_cases h : c = q
  · rw [if_pos h]
    exact scatter_set_hit d x idx upd _ _ (fun k hk => by rw [(lands k hk).1]) (ix1 r) ((lands_col d hiw hsd idx q hq r r c).2 ⟨rfl, h⟩)
  · rw [if_neg h]
    exact scatter_set_miss d x idx upd _ fun k hk => h (lands k hk).2

end Cert.Proof.Scatter

end
-- ==== Proof.Ref.lean ====
/-
  The reference over the extended reals: its target distribution entry by entry, and its result as a sum of real numbers.
-/
module

public import proofs.«01_k».proof.Proof.Gen.ReferenceIdeal.Run
public import proofs.«01_k».proof.Proof.Scatter
public import Idealize.ShloMosaic.Lib.IdealHost
public import Idealize.ShloMosaic.Lib.Pipeline.Value

@[expose] public section

noncomputable section

namespace Cert.Proof.Ref

open Cert.ReferenceIdeal Cert.ReferenceIdeal.Gen Idealize.ShloMosaic Idealize.ShloMosaic.ValueIdx

/-! ## The reference's arrays -/

section Arrays
variable (t : IVec S4096 32)

/-- The smoothing weight, 1 over 10. -/
def tenth : FVec Ideal S_ .f32 := Host.divf (constant S_ .f32 0x3F800000#32) (constant S_ .f32 0x41200000#32)

/-- Zero, one word, down a vector of 4096. -/
def zeros : IVec S4096 32 := broadcastInDim S4096 ![] bcast_S_S4096 (constantI S_ 32 0#32)

/-- The pairs of index words (row, target). -/
def pairs : IVec S4096x2 32 :=
  concatenate S4096x2 1
    [⟨S4096x1, broadcastInDim S4096x1 ![0] bcast_S4096_S4096x1_0 (select (cmpi .slt (iotaInDim S4096 32 0) zeros)
        (addi (iotaInDim S4096 32 0) (broadcastInDim S4096 ![] bcast_S_S4096 (constantI S_ 32 4096#32))) (iotaInDim S4096 32 0))⟩,
      ⟨S4096x1, broadcastInDim S4096x1 ![0] bcast_S4096_S4096x1_0 (select (cmpi .slt t zeros)
        (addi t (broadcastInDim S4096 ![] bcast_S_S4096 (constantI S_ 32 32000#32))) t)⟩] concatenates_S4096x1_S4096x1_S4096x2_d1

/-- The small weight everywhere, the large one at every row's target. -/
def dist₁ : FVec Ideal S4096x32000 .f32 :=
  Host.scatter scatter_S4096x32000_S4096x2_S4096_n_01_01_1 (fun _ b => b)
    (broadcastInDim S4096x32000 ![] bcast_S_S4096x32000 (Host.divf tenth (constant S_ .f32 0x46F9FC00#32))) (pairs t)
    (broadcastInDim S4096 ![] bcast_S_S4096 (subf (constant S_ .f32 0x3F800000#32) tenth))

/-- Column 0 set to zero. -/
def dist₂ : FVec Ideal S4096x32000 .f32 :=
  Host.scatter scatter_S4096x32000_S1_S4096_0_1_1_0 (fun _ b => b) (dist₁ t) (broadcastInDim S1 ![] bcast_S_S1 (constantI S_ 32 0#32))
    (broadcastInDim S4096 ![] bcast_S_S4096 (constant S_ .f32 0x00000000#32))

/-- The rows whose target is 0 set to zero. -/
def dist : FVec Ideal S4096x32000 .f32 :=
  select (broadcastInDim S4096x32000 ![0, 1] bcast_S4096x1_S4096x32000_0_1 (broadcastInDim S4096x1 ![0] bcast_S4096_S4096x1_0 (cmpi .eq t zeros)))
    (broadcastInDim S4096x32000 ![] bcast_S_S4096x32000 (id (constant S_ .f32 0x00000000#32))) (dist₂ t)

/-- A distribution's entries compared with zero. -/
def pos (D : FVec Ideal S4096x32000 .f32) : IVec S4096x32000 1 :=
  cmpf .ogt D (broadcastInDim S4096x32000 ![] bcast_S_S4096x32000 (constant S_ .f32 0x00000000#32))

/-- What the loss sums: D log D, zero where D is not positive, less D times the table's entry. -/
def terms (x D : FVec Ideal S4096x32000 .f32) : FVec Ideal S4096x32000 .f32 :=
  subf (select (pos D)
      (mulf D (Host.log (select (pos D) D (broadcastInDim S4096x32000 ![] bcast_S_S4096x32000 (id (constant S_ .f32 0x3F800000#32))))))
      (broadcastInDim S4096x32000 ![] bcast_S_S4096x32000 (id (constant S_ .f32 0x00000000#32))))
    (mulf D x)

end Arrays

set_option maxRecDepth 16384 in
/-- The reference's result is the sum of the terms. -/
theorem result_eq (m : (ℓ : Loc nD τ sig) → Buf (Elt Ideal) ℓ) (c : Dev nD) :
    Cert.ReferenceIdeal.Value.res_out0 (F := Ideal) m c
      = Host.reduceAdd (terms (m ((c.tc : Thread nD τ).loc main_arg0)) (dist (m ((c.tc : Thread nD τ).loc main_arg1)))) (constant S_ .f32 0x00000000#32)
          reducesTo_S4096x32000_S_d0_1 h_S_ := by
  unfold Cert.ReferenceIdeal.Value.res_out0 Cert.ReferenceIdeal.Value.res_main_v37
  rfl

/-- A finite sum of real numbers, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The weights -/

theorem ten : Ideal.ofBits .f32 0x41200000#32 = ((10 : ℝ) : EReal) := by
  simp [Ideal.ofBits, Ideal.ieee, -EReal.coe_mul]; norm_num
theorem one : Ideal.ofBits .f32 0x3F800000#32 = ((1 : ℝ) : EReal) := by rw [Ideal.ofBits_one_f32]; rfl
theorem zero : Ideal.ofBits .f32 0x00000000#32 = ((0 : ℝ) : EReal) := by rw [Ideal.ofBits_zero_f32]; rfl
theorem width : Ideal.ofBits .f32 0x46F9FC00#32 = ((31998 : ℝ) : EReal) := by
  simp [Ideal.ofBits, Ideal.ieee, -EReal.coe_mul]; norm_num

theorem tenth_apply (i : S_.Idx) : tenth i = ((1 / 10 : ℝ) : EReal) := by
  show Ideal.div (Ideal.ofBits .f32 0x3F800000#32) (Ideal.ofBits .f32 0x41200000#32) = _
  rw [one, ten, Ideal.div_coe (by norm_num), ← EReal.coe_mul]
  norm_num

/-- A row's weight at column `k`, its target the word `w`. -/
def wt (w : BitVec 32) (k : ℕ) : ℝ := if w = 0#32 then 0 else if k = 0 then 0 else if k = w.toNat then 9 / 10 else 1 / 319980

section Dist
variable (t : IVec S4096 32) (ht : ∀ i, (t i).toNat < 32000)

/-- The first word of row `n`'s pair is `n`. -/
theorem pairs_row (n : Fin 4096) : (pairs t (ix2 n 0)).toInt = n.val := by
  have e : pairs t (ix2 n 0) = BitVec.ofNat 32 n.val := by
    unfold pairs
    rw [concatenate_pair_apply_left (s₁ := S4096x1) (s₂ := S4096x1) (t := S4096x2) 1 _ _ _ (ix2 n 0) rfl (ix2 n 0) (by intro b; fin_cases b <;> rfl),
      broadcastInDim_apply ![0] _ _ _ (ix1 n) (by intro a; fin_cases a; rfl)]
    exact Routing.wrap_of_lt (w := 32) (BitVec.ofNat 32 n.val) _ (by rw [BitVec.toNat_ofNat]; have := n.isLt; omega)
  rw [e]
  exact StableHlo.Predicate.toInt_ofNat_small _ (by have := n.isLt; omega)

include ht in
/-- The second word of row `n`'s pair is the row's target. -/
theorem pairs_target (n : Fin 4096) : (pairs t (ix2 n 1)).toInt = (t (ix1 n)).toNat := by
  have hn := ht (ix1 n)
  have e : pairs t (ix2 n 1) = t (ix1 n) := by
    unfold pairs
    rw [concatenate_pair_apply_right (s₁ := S4096x1) (s₂ := S4096x1) (t := S4096x2) 1 _ _ _ (ix2 n 1) rfl rfl (ix2 n 0)
        (by intro b hb; fin_cases b; · rfl
            · exact absurd rfl hb) rfl,
      broadcastInDim_apply ![0] _ _ _ (ix1 n) (by intro a; fin_cases a; rfl)]
    exact Routing.wrap_of_lt (w := 32) (t (ix1 n)) _ (by omega)
  rw [e, BitVec.toInt_eq_toNat_of_lt (by omega)]

include ht in
/-- The target distribution at row `n` and column `k` is the row's weight there. -/
theorem dist_apply (n : Fin 4096) (k : Fin 32000) : dist t (ix2 n k) = ((wt (t (ix1 n)) k.val : ℝ) : EReal) := by
  have e0 : dist t (ix2 n k) = Scalar.select (IntOp.cmpi .eq (t (ix1 n)) 0#32) (Ideal.ofBits .f32 0x00000000#32) (dist₂ t (ix2 n k)) := by
    unfold dist
    show Scalar.select (broadcastInDim (s := S4096x1) S4096x32000 ![0, 1] _ _ (ix2 n k)) _ _ = _
    rw [broadcastInDim_apply ![0, 1] _ _ _ (ix2 n 0) (by intro a; fin_cases a <;> rfl),
      broadcastInDim_apply ![0] _ _ _ (ix1 n) (by intro a; fin_cases a; rfl)]
    rfl
  have e2 : dist₂ t (ix2 n k) = if k.val = 0 then Ideal.ofBits .f32 0x00000000#32 else dist₁ t (ix2 n k) := by
    unfold dist₂
    rw [Scatter.set_col _ rfl rfl _ _ _ (0 : Fin 32000) (by decide)]
    simp only [Fin.ext_iff]
    rfl
  have e1 : dist₁ t (ix2 n k) = if k.val = (t (ix1 n)).toNat then ((9 / 10 : ℝ) : EReal) else ((1 / 319980 : ℝ) : EReal) := by
    unfold dist₁
    rw [Scatter.set_rows _ rfl rfl rfl _ _ _ (fun n => (t (ix1 n)).toNat) (pairs_row t) (pairs_target t ht)]
    have hbig : (broadcastInDim S4096 ![] bcast_S_S4096 (subf (constant S_ .f32 0x3F800000#32) tenth)) (ix1 n) = ((9 / 10 : ℝ) : EReal) := by
      rw [broadcastInDim_scalar_apply, subf_apply, tenth_apply, constant_apply, one, ← EReal.coe_sub]; norm_num
    have hsmall : (broadcastInDim S4096x32000 ![] bcast_S_S4096x32000 (Host.divf tenth (constant S_ .f32 0x46F9FC00#32))) (ix2 n k)
        = ((1 / 319980 : ℝ) : EReal) := by
      rw [broadcastInDim_scalar_apply, hostDivf_apply, tenth_apply, constant_apply, width, Ideal.div_coe (by norm_num), ← EReal.coe_mul]; norm_num
    rw [hbig, hsmall]
  rw [e0, e2, e1, zero]
  unfold wt
  by_cases h : t (ix1 n) = 0#32
  · rw [if_pos h, h]; rfl
  · rw [if_neg h, show IntOp.cmpi .eq (t (ix1 n)) 0#32 = 0#1 from by
      show BitVec.ofBool (t (ix1 n) == 0#32) = 0#1; rw [beq_eq_false_iff_ne.2 h]; rfl]
    show (if k.val = 0 then _ else _) = _
    split_ifs <;> rfl

end Dist

/-! ## The loss -/

/-- w log w less w times the table's entry. -/
def term (w x : ℝ) : ℝ := (if 0 < w then w * Real.log w else 0) - w * x

/-- One term of the loss, its weight and its entry real. -/
theorem terms_apply (x D : FVec Ideal S4096x32000 .f32) (i : S4096x32000.Idx) (w r : ℝ) (hw : D i = (w : EReal)) (hr : x i = (r : EReal)) :
    terms x D i = ((term w r : ℝ) : EReal) := by
  have e : terms x D i = Scalar.select (Ideal.cmp .ogt (D i) (Ideal.ofBits .f32 0x00000000#32))
      (D i * Ideal.log (Scalar.select (Ideal.cmp .ogt (D i) (Ideal.ofBits .f32 0x00000000#32)) (D i) (Ideal.ofBits .f32 0x3F800000#32)))
      (Ideal.ofBits .f32 0x00000000#32) - D i * x i := rfl
  rw [e, hw, hr, zero, one]
  unfold term
  by_cases h : 0 < w
  · have hc : Ideal.cmp .ogt (w : EReal) ((0 : ℝ) : EReal) = 1#1 := by
      show BitVec.ofBool (decide (((0 : ℝ) : EReal) < (w : EReal))) = 1#1
      rw [decide_eq_true (EReal.coe_lt_coe_iff.2 h)]; rfl
    rw [hc, if_pos h]
    show (w : EReal) * Ideal.log (w : EReal) - (w : EReal) * (r : EReal) = _
    rw [Ideal.log_coe, if_neg (not_le.2 h), ← EReal.coe_mul, ← EReal.coe_mul, ← EReal.coe_sub]
  · have hc : Ideal.cmp .ogt (w : EReal) ((0 : ℝ) : EReal) = 0#1 := by
      show BitVec.ofBool (decide (((0 : ℝ) : EReal) < (w : EReal))) = 0#1
      rw [decide_eq_false (fun q => h (EReal.coe_lt_coe_iff.1 q))]; rfl
    rw [hc, if_neg h]
    show ((0 : ℝ) : EReal) - (w : EReal) * (r : EReal) = _
    rw [← EReal.coe_mul, ← EReal.coe_sub]

/-- The reference's result: the terms summed over the rows and the columns. -/
theorem loss_eq (x : FVec Ideal S4096x32000 .f32) (t : IVec S4096 32) (ht : ∀ i, (t i).toNat < 32000) (r : S4096x32000.Idx → ℝ)
    (hx : ∀ i, x i = (r i : EReal)) (j : S_.Idx) :
    Host.reduceAdd (terms x (dist t)) (constant S_ .f32 0x00000000#32 : FVec Ideal S_ .f32) reducesTo_S4096x32000_S_d0_1 h_S_ j
      = ((∑ n : Fin 4096, ∑ k : Fin 32000, term (wt (t (ix1 n)) k.val) (r (ix2 n k)) : ℝ) : EReal) := by
  rw [hostReduceAdd_apply, Ideal.hostReduceAdd_total _ (fun b => b.elim0), constant_apply, Ideal.ofBits_zero_f32, zero_add, sum_idx2]
  rw [coe_sum]
  refine Finset.sum_congr rfl fun n _ => ?_
  rw [coe_sum]
  exact Finset.sum_congr rfl fun k _ => terms_apply x _ _ _ _ (dist_apply t ht n k) (hx _)

end Cert.Proof.Ref

end
-- ==== Proof.Row.lean ====
/-
  One row of the loss over the real numbers: the sum over the columns in closed form, as the kernel computes it; and sums over
  ranges cut into equal blocks.
-/
module

public import proofs.«01_k».proof.Proof.Ref

@[expose] public section

noncomputable section

namespace Cert.Proof.Row

open Cert.Proof.Ref

/-- The constant the kernel subtracts from: a tenth of log (eps · 0.9⁹). -/
def ent : ℝ := (1 / 10) * Real.log (129140163 / 106660000000000)

/-- Σ w log w over a row's nonzero weights, 31998 of eps and one of 0.9, is that constant. -/
theorem ent_eq : 31998 * ((1 / 319980 : ℝ) * Real.log (1 / 319980)) + 9 / 10 * Real.log (9 / 10) = ent := by
  unfold ent
  rw [show (129140163 / 106660000000000 : ℝ) = (9 / 10) ^ 9 * (1 / 319980) by norm_num,
    Real.log_mul (by norm_num) (by norm_num), Real.log_pow]
  push_cast
  ring

/-- What a row contributes: nothing when its target is the padding, else the closed form from its sum off column 0 and the entry at
    its target. -/
def row (w : BitVec 32) (f : ℕ → ℝ) : ℝ :=
  if w = 0#32 then 0
  else ent - 1 / 319980 * (∑ k ∈ Finset.range 32000, f k - f 0) - 287981 / 319980 * f w.toNat

theorem term_zero (x : ℝ) : term 0 x = 0 := by simp [term]
theorem term_pos (w x : ℝ) (h : 0 < w) : term w x = w * Real.log w - w * x := by simp [term, h]

/-- A row's terms over its columns sum to what the row contributes. -/
theorem row_eq (w : BitVec 32) (hw : w.toNat < 32000) (f : ℕ → ℝ) :
    ∑ k : Fin 32000, term (wt w k.val) (f k.val) = row w f := by
  rw [Fin.sum_univ_eq_sum_range (fun k => term (wt w k) (f k)) 32000]
  unfold row
  by_cases h : w = 0#32
  · rw [if_pos h]
    refine Finset.sum_eq_zero fun k _ => ?_
    rw [wt, if_pos h, term_zero]
  · rw [if_neg h]
    have h0 : w.toNat ≠ 0 := fun e => h (BitVec.eq_of_toNat_eq e)
    have hE : ∀ k ∈ Finset.range 32000, term (wt w k) (f k)
        = ((1 / 319980 : ℝ) * Real.log (1 / 319980) - 1 / 319980 * f k)
          + (if k = 0 then -((1 / 319980 : ℝ) * Real.log (1 / 319980) - 1 / 319980 * f 0) else 0)
          + (if k = w.toNat then (9 / 10 * Real.log (9 / 10) - 9 / 10 * f w.toNat)
              - ((1 / 319980 : ℝ) * Real.log (1 / 319980) - 1 / 319980 * f w.toNat) else 0) := by
      intro k _
      unfold wt
      rw [if_neg h]
      by_cases hk : k = 0
      · subst hk
        rw [if_pos rfl, if_pos rfl, if_neg (Ne.symm h0), term_zero]; ring
      · rw [if_neg hk, if_neg hk]
        by_cases hc : k = w.toNat
        · subst hc
          rw [if_pos rfl, if_pos rfl, term_pos _ _ (by norm_num)]; ring
        · rw [if_neg hc, if_neg hc, term_pos _ _ (by norm_num)]; ring
    rw [Finset.sum_congr rfl hE, Finset.sum_add_distrib, Finset.sum_add_distrib, Finset.sum_sub_distrib,
      Finset.sum_ite_eq' (Finset.range 32000) 0, Finset.sum_ite_eq' (Finset.range 32000) w.toNat,
      if_pos (Finset.mem_range.2 (by norm_num)), if_pos (Finset.mem_range.2 hw), Finset.sum_const, Finset.card_range,
      ← Finset.mul_sum, ← ent_eq, nsmul_eq_mul]
    push_cast
    ring

/-- A sum over m blocks of n is the sum over the m·n. -/
theorem sum_blocks (m n : ℕ) (g : ℕ → ℝ) :
    ∑ b ∈ Finset.range m, ∑ c ∈ Finset.range n, g (n * b + c) = ∑ k ∈ Finset.range (m * n), g k := by
  induction m with
  | zero => simp
  | succ m ih => rw [Finset.sum_range_succ, ih, Nat.succ_mul, Finset.sum_range_add, Nat.mul_comm n m]

end Cert.Proof.Row

end
-- ==== Proof.Val.lean ====
/-
  The kernel's result over the extended reals, on a table of real numbers: the rows' contributions, summed.
-/
module

public import proofs.«01_k».proof.Proof.KI.Run
public import proofs.«01_k».proof.Proof.Row
public import Idealize.ShloMosaic.PureOps.IdealRules

@[expose] public section

set_option maxRecDepth 16384

noncomputable section

namespace Cert.Proof.Val

open Cert.KernelIdeal Cert.KernelIdeal.Gen Idealize.ShloMosaic Idealize.ShloMosaic.ValueIdx
open Cert.Proof.KI Cert.Proof.Row

/-! ## The named constants -/

theorem eps_eq : kEps (F := Ideal) = ((1 / 319980 : ℝ) : EReal) := IdealRules.named_const.ideal_named_scalar κ "eps" _ _ rfl
theorem ent_val : kEnt (F := Ideal) = ((ent : ℝ) : EReal) := IdealRules.named_const.ideal_named_scalar κ "entropy" _ _ rfl
theorem cme_eq : kCme (F := Ideal) = ((287981 / 319980 : ℝ) : EReal) :=
  IdealRules.named_const.ideal_named_scalar κ "conf_minus_eps" _ _ rfl
theorem zero_eq : kZero (F := Ideal) = ((0 : ℝ) : EReal) := Ideal.ofBits_zero_f32

/-! ## The adjusted row sums -/

/-- A block's row sums. -/
theorem pay1_apply (x : FVec Ideal S256x6400 .f32) (f : ℕ → ℝ) (y : S256.Idx)
    (hx : ∀ k : Fin 6400, x (ix2 (y 0) k) = (f k.val : EReal)) :
    (k0_pay1 (F := Ideal) x y : EReal) = ((∑ c ∈ Finset.range 6400, f c : ℝ) : EReal) := by
  unfold k0_pay1
  refine (Ideal.multiReduction_add_single (s := S256x6400) (t := S256) (a := 1) x _ reduces_S256x6400_S256 _ _ y).trans ?_
  rw [← Fin.sum_univ_eq_sum_range f 6400, Ref.coe_sum]
  refine Finset.sum_congr rfl fun k _ => ?_
  refine Eq.trans (congrArg x ?_) (hx k)
  funext a; apply Fin.ext
  fin_cases a <;> rfl

/-- Row block i's sums after column block j: the row's entries up to there, less its entry of column 0. -/
theorem adjBlk_apply (X : FVec Ideal S4096x32000 .f32) (r : S4096x32000.Idx → ℝ) (hX : ∀ i, X i = (r i : EReal)) (i j : ℕ) (y : S256.Idx) :
    adjBlk (F := Ideal) X i j y
      = ((∑ b ∈ Finset.range (j + 1), ∑ c ∈ Finset.range 6400, r (ixX (256 * i + (y 0).val) (6400 * b + c))
          - r (ixX (256 * i + (y 0).val) 0) : ℝ) : EReal) := by
  have h1 : ∀ j, (k0_pay1 (F := Ideal) (xBlk X i j) y : EReal)
      = ((∑ c ∈ Finset.range 6400, r (ixX (256 * i + (y 0).val) (6400 * j + c)) : ℝ) : EReal) := fun j =>
    pay1_apply _ (fun c => r (ixX (256 * i + (y 0).val) (6400 * j + c))) y fun k => hX _
  induction j with
  | zero =>
    show k0_pay1 (F := Ideal) (xBlk X i 0) y - shapeCast S256 (col0 (xBlk X i 0)) shapeCasts_S256x1_S256 y = _
    rw [h1, shapeCast_apply _ shapeCasts_S256x1_S256 y (ix2 (y 0) 0) (by
      rw [Shape.rowMajor_val_one, Shape.rowMajor_val_two]; show (y 0).val * 1 + 0 = (y 0).val; omega)]
    have hy : (y 0).val < 256 := (y 0).isLt
    have e : col0 (xBlk X i 0) (ix2 (y 0) 0) = (r (ixX (256 * i + (y 0).val) 0) : EReal) := by
      show X (ixX (256 * i + (y 0).val % 256) (6400 * 0 + 0 % 6400)) = _
      rw [hX, Nat.mod_eq_of_lt hy]
    rw [e, ← EReal.coe_sub, zero_add, Finset.sum_range_one]
  | succ j ih =>
    show shapeCast S256 (adjBlk (F := Ideal) X i j) shapeCasts_S256_S256 y + k0_pay1 (F := Ideal) (xBlk X i (j + 1)) y = _
    rw [h1, shapeCast_apply _ shapeCasts_S256_S256 y y rfl, ih, ← EReal.coe_add, Finset.sum_range_succ _ (j + 1)]
    congr 1
    ring

/-- The adjusted row sums. -/
theorem adjArr_apply (X : FVec Ideal S4096x32000 .f32) (r : S4096x32000.Idx → ℝ) (hX : ∀ i, X i = (r i : EReal)) (n : ℕ) (hn : n < 4096) :
    adjArr (F := Ideal) X (ix4096 n) = ((∑ k ∈ Finset.range 32000, r (ixX n k) - r (ixX n 0) : ℝ) : EReal) := by
  show adjBlk (F := Ideal) X (n % 4096 / 256) 4 (ix256 (n % 4096)) = _
  rw [Nat.mod_eq_of_lt hn, adjBlk_apply X r hX]
  rw [show 256 * (n / 256) + (ix256 n 0).val = n from Nat.div_add_mod n 256, sum_blocks 5 6400 (fun k => r (ixX n k))]

/-! ## One row's contribution -/

section
variable (T : S4096.Idx → BitVec 32) (A : FVec Ideal S4096 .f32) (X : FVec Ideal S131072000 .f32) (r : S4096x32000.Idx → ℝ)
variable (hA : ∀ n < 4096, A (ix4096 n) = ((∑ k ∈ Finset.range 32000, r (ixX n k) - r (ixX n 0) : ℝ) : EReal))
variable (hX : ∀ n < 4096, X (ixFlat (n * 32000 + (T (ix4096 n)).toNat)) = (r (ixX n (T (ix4096 n)).toNat) : EReal))

/-- Row n's contribution. -/
def rowAt (n : ℕ) : ℝ := row (T (ix4096 n)) fun k => r (ixX n k)

include hA hX in
/-- One lane of a chunk is one row's contribution. -/
theorem cChunk_apply (w k : ℕ) (l : S16.Idx) (h : 128 * w + (16 * k + (l 0).val) < 4096) :
    cChunk (F := Ideal) T A X w k l = (rowAt T r (128 * w + (16 * k + (l 0).val)) : EReal) := by
  show Scalar.select (IntOp.cmpi .ne (T (ix4096 (128 * w + (16 * k + (l 0).val)))) 0#32)
    (kEnt (F := Ideal) - kEps (F := Ideal) * A (ix4096 (128 * w + (16 * k + (l 0).val)))
      - kCme (F := Ideal) * X (ixFlat ((128 * w + (16 * k + (l 0).val)) * 32000 + (T (ix4096 (128 * w + (16 * k + (l 0).val)))).toNat)))
    (kZero (F := Ideal)) = _
  generalize 128 * w + (16 * k + (l 0).val) = n at h
  rw [hA n h, hX n h, eps_eq, ent_val, cme_eq, zero_eq]
  unfold rowAt row
  by_cases hT : T (ix4096 n) = 0#32
  · rw [if_pos hT, show IntOp.cmpi .ne (T (ix4096 n)) 0#32 = 0#1 from by rw [hT]; rfl]
    rfl
  · rw [if_neg hT, show IntOp.cmpi .ne (T (ix4096 n)) 0#32 = 1#1 from by
      show BitVec.ofBool (T (ix4096 n) != 0#32) = 1#1
      rw [bne_iff_ne.2 hT]; rfl]
    rw [← EReal.coe_mul, ← EReal.coe_mul, ← EReal.coe_sub, ← EReal.coe_sub]
    rfl

include hA hX in
/-- A worker's lane after k chunks: its k rows' contributions. -/
theorem acc_apply (w : ℕ) (hw : w < 32) (l : S16.Idx) (k : ℕ) (hk : k ≤ 8) :
    acc (F := Ideal) T A X w k l = ((∑ j ∈ Finset.range k, rowAt T r (128 * w + (16 * j + (l 0).val)) : ℝ) : EReal) := by
  induction k with
  | zero => exact zero_eq.trans (by rw [Finset.sum_range_zero])
  | succ k ih =>
    have hl : (l 0).val < 16 := (l 0).isLt
    show acc (F := Ideal) T A X w k l + cChunk (F := Ideal) T A X w k l = _
    rw [ih (by omega), cChunk_apply T A X r hA hX w k l (by omega), ← EReal.coe_add, Finset.sum_range_succ]

include hA hX in
/-- The partial sums, summed: every row's contribution once. -/
theorem parts_sum (j : S_.Idx) :
    Host.reduceAdd (parts (F := Ideal) T A X : FVec Ideal S32x16 .f32) (constant S_ .f32 0x00000000#32) reducesTo_S32x16_S_d0_1 h_S_ j
      = ((∑ n ∈ Finset.range 4096, rowAt T r n : ℝ) : EReal) := by
  rw [hostReduceAdd_apply, Ideal.hostReduceAdd_total _ (fun b => b.elim0), constant_apply, Ideal.ofBits_zero_f32, zero_add, sum_idx2]
  have e : ∀ (w : Fin 32) (l : Fin 16), parts (F := Ideal) T A X (ix2 w l)
      = ((∑ k ∈ Finset.range 8, rowAt T r (128 * w.val + (16 * k + l.val)) : ℝ) : EReal) := fun w l => by
    have hl : l.val % 16 = l.val := Nat.mod_eq_of_lt l.isLt
    show acc (F := Ideal) T A X w.val 8 (ix16 l.val) = _
    rw [acc_apply T A X r hA hX w.val w.isLt _ 8 le_rfl]
    show ((∑ k ∈ Finset.range 8, rowAt T r (128 * w.val + (16 * k + l.val % 16)) : ℝ) : EReal) = _
    rw [hl]
  rw [Finset.sum_congr rfl fun w _ => Finset.sum_congr rfl fun l _ => e w l]
  rw [Finset.sum_congr rfl fun w _ => (Ref.coe_sum _ _).symm, ← Ref.coe_sum]
  congr 1
  rw [Fin.sum_univ_eq_sum_range (fun w => ∑ l : Fin 16, ∑ k ∈ Finset.range 8, rowAt T r (128 * w + (16 * k + l.val))) 32]
  rw [← sum_blocks 32 128 (rowAt T r)]
  refine Finset.sum_congr rfl fun w _ => ?_
  rw [Fin.sum_univ_eq_sum_range (fun l => ∑ k ∈ Finset.range 8, rowAt T r (128 * w + (16 * k + l))) 16, Finset.sum_comm]
  exact sum_blocks 8 16 fun k => rowAt T r (128 * w + k)

end

/-! ## The result -/

/-- The flat table at row n, column t. -/
theorem flat_apply (m : (ℓ : Loc nD τ sig) → Buf (Elt Ideal) ℓ) (d : Dev nD) (n t : ℕ) (hn : n < 4096) (ht : t < 32000) :
    (Xf m d : FVec Ideal S131072000 .f32) (ixFlat (n * 32000 + t)) = (m (xLoc d) : FVec Ideal S4096x32000 .f32) (ixX n t) := by
  have e : (Xf m d : FVec Ideal S131072000 .f32)
      = shapeCast S131072000 (V1 m d x' : FVec Ideal S4096x32000 .f32) shapeCasts_S4096x32000_S131072000 :=
    StableHlo.reshape_result _ _ _ _ _ _ _
  rw [e, V1_ne m d x' (by decide)]
  refine shapeCast_apply (s := S4096x32000) (t := S131072000) _ _ _ _ ?_
  rw [Shape.rowMajor_val_one, Shape.rowMajor_val_two]
  show n % 4096 * 32000 + t % 32000 = (n * 32000 + t) % 131072000
  rw [Nat.mod_eq_of_lt hn, Nat.mod_eq_of_lt ht, Nat.mod_eq_of_lt (by omega)]

/-- The kernel's result on a table of real numbers and targets that are its columns. -/
theorem out_apply (m : (ℓ : Loc nD τ sig) → Buf (Elt Ideal) ℓ) (d : Dev nD) (hT : PreOK m) (r : S4096x32000.Idx → ℝ)
    (hx : ∀ i, (m (xLoc d) : FVec Ideal S4096x32000 .f32) i = (r i : EReal)) (j : S_.Idx) :
    (out m d : FVec Ideal S_ .f32) j = ((∑ n ∈ Finset.range 4096, rowAt (m (tLoc d)) r n : ℝ) : EReal) :=
  parts_sum (Tg m d) (Ad m d) (Xf m d) r (fun n hn => adjArr_apply _ r hx n hn)
    (fun n hn => (flat_apply m d n _ hn (hT d _)).trans (hx _)) j

end Cert.Proof.Val

end
-- ==== Proof.Equal.lean ====
/-
  The kernel's idealization and the reference over the extended reals give one result.
-/
module

public import proofs.«01_k».proof.Proof.Frames
public import proofs.«01_k».proof.Proof.Val

@[expose] public section

set_option maxRecDepth 16384

noncomputable section

namespace Cert.Proof

open Idealize.ShloMosaic Idealize.ShloMosaic.ValueIdx Idealize.SL.Sem

/-- The rows' contributions, summed, are the reference's double sum. -/
theorem rows_eq (t : IVec Cert.KernelIdeal.S4096 32) (ht : ∀ i, (t i).toNat < 32000) (r : Cert.KernelIdeal.S4096x32000.Idx → ℝ) :
    ∑ n ∈ Finset.range 4096, Val.rowAt t r n = ∑ n : Fin 4096, ∑ k : Fin 32000, Ref.term (Ref.wt (t (ix1 n)) k.val) (r (ix2 n k)) := by
  rw [← Fin.sum_univ_eq_sum_range (Val.rowAt t r) 4096]
  refine Finset.sum_congr rfl fun n _ => ?_
  have en : KI.ix4096 n.val = ix1 n := by
    funext a; apply Fin.ext; fin_cases a; exact Nat.mod_eq_of_lt n.isLt
  have ek : ∀ k : Fin 32000, KI.ixX n.val k.val = ix2 n k := fun k => by
    funext a; apply Fin.ext
    fin_cases a
    · exact Nat.mod_eq_of_lt n.isLt
    · exact Nat.mod_eq_of_lt k.isLt
  unfold Val.rowAt
  rw [en, ← Row.row_eq _ (ht _)]
  exact Finset.sum_congr rfl fun k _ => by rw [ek k]

/-- On targets that are columns of the table and a table of real numbers, the idealized kernel and the reference end with one result. -/
theorem algebraic : Cert.algebraic_KernelIdeal_ReferenceIdeal_pre_in_range := by
  intro m ρ m' ρ' hpre hagree
  have hok := ideal_ok_range m hpre
  refine ⟨fun c => KI.out m c, (θ_run _ _ _).mono (fun _ h c => h.1 c) (KI.run_main (F := Ideal) m ρ hok), ?_⟩
  refine (θ_run _ _ _).mono (fun _ h c => ⟨(h c).1.trans ?_, (h c).2⟩) (Cert.ReferenceIdeal.Value.run (F := Ideal) m' ρ')
  choose r hr using Pre.entry_real _ _ (hpre c)
  show Cert.ReferenceIdeal.Value.res_out0 m' c = KI.out m c
  rw [Ref.result_eq, (hagree c).1, (hagree c).2]
  funext j
  refine (Ref.loss_eq _ _ (hok c) r hr j).trans ?_
  rw [Val.out_apply m c hok r hr j]
  exact congrArg _ (rows_eq _ (hok c) r).symm

end Cert.Proof

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_vocab
public import proofs.«01_k».proof.Proof.Frames
public import proofs.«01_k».proof.Proof.Equal
public import Idealize.ShloMosaic.Adequacy
public import Idealize.ShloMosaic.Init

@[expose] public section

noncomputable section

namespace Cert.Proof

/-- Every claim of this directory. -/
theorem claim : Cert.Claim :=
  ⟨Cert.Kernel.Gen.facts, Cert.KernelIdeal.Gen.facts, Cert.ReferenceIdeal.Gen.facts, Cert.Pre_in_vocab.Gen.facts,
    Cert.Pre_in_range.Gen.facts, frame_Kernel, frame_KernelIdeal, frame_KernelIdeal_range, frame_ReferenceIdeal,
    frame_ReferenceIdeal_pre, preserves, algebraic⟩

end Cert.Proof

end
